-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates_KernelIdeal [hPre_finite_gates_KernelIdeal : Cert.Pre_finite_gates_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates_ReferenceIdeal [hPre_finite_gates_ReferenceIdeal : Cert.Pre_finite_gates_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gates_KernelIdeal [hKernelIdeal : Cert.KernelIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates_ReferenceIdeal [hReferenceIdeal : Cert.ReferenceIdeal.Facts] [hPre_finite_gates_ReferenceIdeal : Cert.Pre_finite_gates_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gates_KernelIdeal [hKernelIdeal : Cert.KernelIdeal.Facts] [hReferenceIdeal : Cert.ReferenceIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates_KernelIdeal m →
    (∀ c : Dev Cert.KernelIdeal.nD,
      m ((c.tc : Thread Cert.KernelIdeal.nD Cert.KernelIdeal.τ).loc Cert.KernelIdeal.main_arg0) = Layout.block ⟨2, ![128, 512]⟩ ⟨2, ![512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2]⟩ ⟨2, ![512, 8]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![8, 512, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![8, 1024, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v206) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gates_KernelIdeal : Cert.Pre_finite_gates_KernelIdeal.Facts) (hPre_finite_gates_ReferenceIdeal : Cert.Pre_finite_gates_ReferenceIdeal.Facts),
    quiescent_Kernel (hKernel := hKernel)
    ∧ quiescent_KernelIdeal (hKernelIdeal := hKernelIdeal)
    ∧ quiescent_KernelIdeal_pre_finite_gates_KernelIdeal (hKernelIdeal := hKernelIdeal) (hPre_finite_gates_KernelIdeal := hPre_finite_gates_KernelIdeal)
    ∧ quiescent_ReferenceIdeal (hReferenceIdeal := hReferenceIdeal)
    ∧ quiescent_ReferenceIdeal_pre_finite_gates_ReferenceIdeal (hReferenceIdeal := hReferenceIdeal) (hPre_finite_gates_ReferenceIdeal := hPre_finite_gates_ReferenceIdeal)
    ∧ preserves_Kernel_KernelIdeal
    ∧ algebraic_KernelIdeal_ReferenceIdeal_pre_finite_gates_KernelIdeal (hKernelIdeal := hKernelIdeal) (hReferenceIdeal := hReferenceIdeal) (hPre_finite_gates_KernelIdeal := hPre_finite_gates_KernelIdeal)
-- ==== Pre_finite_gates_KernelIdeal.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S128x512 .f32) (main_arg1 : FVec F S512x2 .f32) (main_arg2 : FVec F S2x512x1024 .f32) (main_arg3 : FVec F S2x1024x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Pre_finite_gates_ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_

variable [Facts]

def fn {F : FTy → Type} [FloatOps F] (main_arg0 : FVec F S512x512 .f32) (main_arg1 : FVec F S512x8 .f32) (main_arg2 : FVec F S8x512x1024 .f32) (main_arg3 : FVec F S8x1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  main_v8
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S512x512 : Shape := ⟨2, ![512, 512]⟩
abbrev S4x512x2 : Shape := ⟨3, ![4, 512, 2]⟩
abbrev S3x128x512 : Shape := ⟨3, ![3, 128, 512]⟩
abbrev S3 : Shape := ⟨1, ![3]⟩
abbrev S_ : Shape := ⟨0, ![]⟩
abbrev S1x512x2 : Shape := ⟨3, ![1, 512, 2]⟩
abbrev S1 : Shape := ⟨1, ![1]⟩
abbrev S512x8 : Shape := ⟨2, ![512, 8]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S1x128x512 : Shape := ⟨3, ![1, 128, 512]⟩

abbrev nBuf : Space → Nat
  | .hbm => 5
  | .vmem => 10
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S512x512, .f32⟩
  | .local _ .vmem, ⟨6, _⟩ => ⟨S4x512x2, .f32⟩
  | .local _ .vmem, ⟨7, _⟩ => ⟨S512x512, .f32⟩
  | .local _ .vmem, ⟨8, _⟩ => ⟨S3x128x512, .f32⟩
  | .local _ .vmem, ⟨9, _⟩ => ⟨S3x128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v33 : BitVec 32 := Scalar.muli v2 c128_i32
  let v34 : Index := Scalar.indexCast v33
  let c0_21 : Index := 0#32
  ![v34.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : Index := Scalar.indexCast v2
  let c0_24 : Index := 0#32
  let c0_25 : Index := 0#32
  ![v41.toNat, 0, 0]
def k0_off3 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.subi v2 c0_i32_26
  let c4_i32_27 : BitVec 32 := 4#32
  let v46 : BitVec 32 := Scalar.addi v45 c4_i32_27
  let c4_i32_28 : BitVec 32 := 4#32
  let c0_i32_29 : BitVec 32 := 0#32
  let v47 : BitVec 1 := Scalar.cmpi .eq c4_i32_28 c0_i32_29
  let c1_i32_30 : BitVec 32 := 1#32
  let v48 : BitVec 32 := Scalar.select v47 c1_i32_30 c4_i32_28
  let v49 : BitVec 32 := Scalar.remsi v46 v48
  let c0_i32_32 : BitVec 32 := 0#32
  let v51 : BitVec 1 := Scalar.cmpi .slt v49 c0_i32_32
  let c0_i32_33 : BitVec 32 := 0#32
  let v52 : BitVec 1 := Scalar.cmpi .slt v48 c0_i32_33
  let v53 : BitVec 1 := Scalar.xori v51 v52
  let c0_i32_31 : BitVec 32 := 0#32
  let v50 : BitVec 1 := Scalar.cmpi .ne v49 c0_i32_31
  let v54 : BitVec 1 := Scalar.andi v53 v50
  let v55 : BitVec 32 := Scalar.addi v49 v48
  let v56 : BitVec 32 := Scalar.select v54 v55 v49
  let c128_i32_35 : BitVec 32 := 128#32
  let v58 : BitVec 32 := Scalar.muli v56 c128_i32_35
  let c0_i32_40 : BitVec 32 := 0#32
  ![v58.toNat, 0]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_38 : BitVec 32 := 1#32
  let v59 : BitVec 32 := Scalar.muli v25 c1_i32_38
  let v60 : BitVec 32 := Scalar.addi c0_i32_39 v59
  v60.toNat
def k0_off4 (d0 : Dev nD) (c0_i32_26 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.subi v2 c0_i32_26
  let c4_i32_27 : BitVec 32 := 4#32
  let v46 : BitVec 32 := Scalar.addi v45 c4_i32_27
  let c4_i32_28 : BitVec 32 := 4#32
  let c0_i32_29 : BitVec 32 := 0#32
  let v47 : BitVec 1 := Scalar.cmpi .eq c4_i32_28 c0_i32_29
  let c1_i32_30 : BitVec 32 := 1#32
  let v48 : BitVec 32 := Scalar.select v47 c1_i32_30 c4_i32_28
  let v49 : BitVec 32 := Scalar.remsi v46 v48
  let c0_i32_32 : BitVec 32 := 0#32
  let v51 : BitVec 1 := Scalar.cmpi .slt v49 c0_i32_32
  let c0_i32_33 : BitVec 32 := 0#32
  let v52 : BitVec 1 := Scalar.cmpi .slt v48 c0_i32_33
  let v53 : BitVec 1 := Scalar.xori v51 v52
  let c0_i32_31 : BitVec 32 := 0#32
  let v50 : BitVec 1 := Scalar.cmpi .ne v49 c0_i32_31
  let v54 : BitVec 1 := Scalar.andi v53 v50
  let v55 : BitVec 32 := Scalar.addi v49 v48
  let v56 : BitVec 32 := Scalar.select v54 v55 v49
  let c0_i32_46 : BitVec 32 := 0#32
  let c0_i32_47 : BitVec 32 := 0#32
  ![v56.toNat, 0, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_44 : BitVec 32 := 1#32
  let v67 : BitVec 32 := Scalar.muli v25 c1_i32_44
  let v68 : BitVec 32 := Scalar.addi c0_i32_45 v67
  v68.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_88 : BitVec 32 := 1#32
  let v109 : BitVec 32 := Scalar.muli v25 c1_i32_88
  let v110 : BitVec 32 := Scalar.addi c0_i32_89 v109
  v110.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_94 : BitVec 32 := 1#32
  let v117 : BitVec 32 := Scalar.muli v25 c1_i32_94
  let v118 : BitVec 32 := Scalar.addi c0_i32_95 v117
  v118.toNat
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_138 : BitVec 32 := 1#32
  let v159 : BitVec 32 := Scalar.muli v25 c1_i32_138
  let v160 : BitVec 32 := Scalar.addi c0_i32_139 v159
  v160.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_144 : BitVec 32 := 1#32
  let v167 : BitVec 32 := Scalar.muli v25 c1_i32_144
  let v168 : BitVec 32 := Scalar.addi c0_i32_145 v167
  v168.toNat
def k0_off5 (d0 : Dev nD) (c0_i32_221 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_220 : BitVec 32 := 1#32
  let v290 : BitVec 32 := Scalar.addi v2 c1_i32_220
  let v291 : BitVec 32 := Scalar.addi v290 c0_i32_221
  let c4_i32_222 : BitVec 32 := 4#32
  let c0_i32_223 : BitVec 32 := 0#32
  let v292 : BitVec 1 := Scalar.cmpi .eq c4_i32_222 c0_i32_223
  let c1_i32_224 : BitVec 32 := 1#32
  let v293 : BitVec 32 := Scalar.select v292 c1_i32_224 c4_i32_222
  let v294 : BitVec 32 := Scalar.remsi v291 v293
  let c0_i32_226 : BitVec 32 := 0#32
  let v296 : BitVec 1 := Scalar.cmpi .slt v294 c0_i32_226
  let c0_i32_227 : BitVec 32 := 0#32
  let v297 : BitVec 1 := Scalar.cmpi .slt v293 c0_i32_227
  let v298 : BitVec 1 := Scalar.xori v296 v297
  let c0_i32_225 : BitVec 32 := 0#32
  let v295 : BitVec 1 := Scalar.cmpi .ne v294 c0_i32_225
  let v299 : BitVec 1 := Scalar.andi v298 v295
  let v300 : BitVec 32 := Scalar.addi v294 v293
  let v301 : BitVec 32 := Scalar.select v299 v300 v294
  let c128_i32_228 : BitVec 32 := 128#32
  let v302 : BitVec 32 := Scalar.muli v301 c128_i32_228
  let v303 : Index := Scalar.indexCast v302
  let c0_229 : Index := 0#32
  ![v303.toNat, 0]
def k0_dev9 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_237 : BitVec 32 := 1#32
  let v308 : BitVec 32 := Scalar.muli v14 c1_i32_237
  let v309 : BitVec 32 := Scalar.addi c0_i32_238 v308
  v309.toNat
def k0_dev10 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_282 : BitVec 32 := 1#32
  let v353 : BitVec 32 := Scalar.muli v14 c1_i32_282
  let v354 : BitVec 32 := Scalar.addi c0_i32_283 v353
  v354.toNat
def k0_dev11 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_326 : BitVec 32 := 1#32
  let v398 : BitVec 32 := Scalar.muli v14 c1_i32_326
  let v399 : BitVec 32 := Scalar.addi c0_i32_327 v398
  v399.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 325
  | .vmem => 0
  | .smem => 0
  | _ => 0

abbrev hbmTy0_0 (i : Nat) : BufTy := match i % 128 with
  | 0 => ⟨S512x512, .f32⟩
  | 1 => ⟨S512x8, .f32⟩
  | 2 => ⟨S8x512x1024, .f32⟩
  | 3 => ⟨S8x1024x512, .f32⟩
  | 4 => ⟨S512x8, .f32⟩
  | 5 => ⟨S512x8, .f32⟩
  | 6 => ⟨S512x8, .i32⟩
  | 7 => ⟨S512x8, .f32⟩
  | 8 => ⟨S512x8, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S1x512x1024, .f32⟩
  | 44 => ⟨S512x1024, .f32⟩
  | 45 => ⟨S512x1024, .f32⟩
  | 46 => ⟨S_, .f32⟩
  | 47 => ⟨S512x1024, .f32⟩
  | 48 => ⟨S512x1024, .f32⟩
  | 49 => ⟨S1x1024x512, .f32⟩
  | 50 => ⟨S1024x512, .f32⟩
  | 51 => ⟨S512x512, .f32⟩
  | 52 => ⟨S1x512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S1x1024x512, .f32⟩
  | 59 => ⟨S1024x512, .f32⟩
  | 60 => ⟨S512x512, .f32⟩
  | 61 => ⟨S1x512x1024, .f32⟩
  | 62 => ⟨S512x1024, .f32⟩
  | 63 => ⟨S512x1024, .f32⟩
  | 64 => ⟨S_, .f32⟩
  | 65 => ⟨S512x1024, .f32⟩
  | 66 => ⟨S512x1024, .f32⟩
  | 67 => ⟨S1x1024x512, .f32⟩
  | 68 => ⟨S1024x512, .f32⟩
  | 69 => ⟨S512x512, .f32⟩
  | 70 => ⟨S1x512x1024, .f32⟩
  | 71 => ⟨S512x1024, .f32⟩
  | 72 => ⟨S512x1024, .f32⟩
  | 73 => ⟨S_, .f32⟩
  | 74 => ⟨S512x1024, .f32⟩
  | 75 => ⟨S512x1024, .f32⟩
  | 76 => ⟨S1x1024x512, .f32⟩
  | 77 => ⟨S1024x512, .f32⟩
  | 78 => ⟨S512x512, .f32⟩
  | 79 => ⟨S1x512x1024, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S1x1024x512, .f32⟩
  | 86 => ⟨S1024x512, .f32⟩
  | 87 => ⟨S512x512, .f32⟩
  | 88 => ⟨S1x512x1024, .f32⟩
  | 89 => ⟨S512x1024, .f32⟩
  | 90 => ⟨S512x1024, .f32⟩
  | 91 => ⟨S_, .f32⟩
  | 92 => ⟨S512x1024, .f32⟩
  | 93 => ⟨S512x1024, .f32⟩
  | 94 => ⟨S1x1024x512, .f32⟩
  | 95 => ⟨S1024x512, .f32⟩
  | 96 => ⟨S512x512, .f32⟩
  | 97 => ⟨S1x512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x512, .f32⟩
  | 104 => ⟨S1024x512, .f32⟩
  | 105 => ⟨S512x512, .f32⟩
  | 106 => ⟨S1x512x1024, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S1x1024x512, .f32⟩
  | 113 => ⟨S1024x512, .f32⟩
  | 114 => ⟨S512x512, .f32⟩
  | 115 => ⟨S_, .f32⟩
  | 116 => ⟨S512x512, .f32⟩
  | 117 => ⟨S512x1, .i32⟩
  | 118 => ⟨S_, .i32⟩
  | 119 => ⟨S512x1, .i32⟩
  | 120 => ⟨S512x1, .i1⟩
  | 121 => ⟨S512x1, .f32⟩
  | 122 => ⟨S512x512, .f32⟩
  | 123 => ⟨S512x512, .f32⟩
  | 124 => ⟨S_, .f32⟩
  | 125 => ⟨S_, .f32⟩
  | 126 => ⟨S512x512, .i1⟩
  | 127 => ⟨S512x512, .f32⟩
  | _ => ⟨S512x512, .f32⟩

abbrev hbmTy0_1 (i : Nat) : BufTy := match i % 128 with
  | 0 => ⟨S512x512, .f32⟩
  | 1 => ⟨S512x512, .f32⟩
  | 2 => ⟨S512x1, .i32⟩
  | 3 => ⟨S_, .i32⟩
  | 4 => ⟨S512x1, .i32⟩
  | 5 => ⟨S512x1, .i1⟩
  | 6 => ⟨S512x1, .f32⟩
  | 7 => ⟨S512x512, .f32⟩
  | 8 => ⟨S512x512, .f32⟩
  | 9 => ⟨S_, .f32⟩
  | 10 => ⟨S_, .f32⟩
  | 11 => ⟨S512x512, .i1⟩
  | 12 => ⟨S512x512, .f32⟩
  | 13 => ⟨S512x512, .f32⟩
  | 14 => ⟨S512x512, .f32⟩
  | 15 => ⟨S512x1, .i32⟩
  | 16 => ⟨S_, .i32⟩
  | 17 => ⟨S512x1, .i32⟩
  | 18 => ⟨S512x1, .i1⟩
  | 19 => ⟨S512x1, .f32⟩
  | 20 => ⟨S512x512, .f32⟩
  | 21 => ⟨S512x512, .f32⟩
  | 22 => ⟨S_, .f32⟩
  | 23 => ⟨S_, .f32⟩
  | 24 => ⟨S512x512, .i1⟩
  | 25 => ⟨S512x512, .f32⟩
  | 26 => ⟨S512x512, .f32⟩
  | 27 => ⟨S512x512, .f32⟩
  | 28 => ⟨S512x1, .i32⟩
  | 29 => ⟨S_, .i32⟩
  | 30 => ⟨S512x1, .i32⟩
  | 31 => ⟨S512x1, .i1⟩
  | 32 => ⟨S512x1, .f32⟩
  | 33 => ⟨S512x512, .f32⟩
  | 34 => ⟨S512x512, .f32⟩
  | 35 => ⟨S_, .f32⟩
  | 36 => ⟨S_, .f32⟩
  | 37 => ⟨S512x512, .i1⟩
  | 38 => ⟨S512x512, .f32⟩
  | 39 => ⟨S512x512, .f32⟩
  | 40 => ⟨S512x512, .f32⟩
  | 41 => ⟨S512x1, .i32⟩
  | 42 => ⟨S_, .i32⟩
  | 43 => ⟨S512x1, .i32⟩
  | 44 => ⟨S512x1, .i1⟩
  | 45 => ⟨S512x1, .f32⟩
  | 46 => ⟨S512x512, .f32⟩
  | 47 => ⟨S512x512, .f32⟩
  | 48 => ⟨S_, .f32⟩
  | 49 => ⟨S_, .f32⟩
  | 50 => ⟨S512x512, .i1⟩
  | 51 => ⟨S512x512, .f32⟩
  | 52 => ⟨S512x512, .f32⟩
  | 53 => ⟨S512x512, .f32⟩
  | 54 => ⟨S512x1, .i32⟩
  | 55 => ⟨S_, .i32⟩
  | 56 => ⟨S512x1, .i32⟩
  | 57 => ⟨S512x1, .i1⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S512x1, .f32⟩
  | 72 => ⟨S512x512, .f32⟩
  | 73 => ⟨S512x512, .f32⟩
  | 74 => ⟨S_, .f32⟩
  | 75 => ⟨S_, .f32⟩
  | 76 => ⟨S512x512, .i1⟩
  | 77 => ⟨S512x512, .f32⟩
  | 78 => ⟨S512x512, .f32⟩
  | 79 => ⟨S512x512, .f32⟩
  | 80 => ⟨S512x1, .i32⟩
  | 81 => ⟨S_, .i32⟩
  | 82 => ⟨S512x1, .i32⟩
  | 83 => ⟨S512x1, .i1⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | 93 => ⟨S512x1, .i32⟩
  | 94 => ⟨S_, .i32⟩
  | 95 => ⟨S512x1, .i32⟩
  | 96 => ⟨S512x1, .i1⟩
  | 97 => ⟨S512x1, .f32⟩
  | 98 => ⟨S512x512, .f32⟩
  | 99 => ⟨S512x512, .f32⟩
  | 100 => ⟨S_, .f32⟩
  | 101 => ⟨S_, .f32⟩
  | 102 => ⟨S512x512, .i1⟩
  | 103 => ⟨S512x512, .f32⟩
  | 104 => ⟨S512x512, .f32⟩
  | 105 => ⟨S512x512, .f32⟩
  | 106 => ⟨S512x1, .i32⟩
  | 107 => ⟨S_, .i32⟩
  | 108 => ⟨S512x1, .i32⟩
  | 109 => ⟨S512x1, .i1⟩
  | 110 => ⟨S512x1, .f32⟩
  | 111 => ⟨S512x512, .f32⟩
  | 112 => ⟨S512x512, .f32⟩
  | 113 => ⟨S_, .f32⟩
  | 114 => ⟨S_, .f32⟩
  | 115 => ⟨S512x512, .i1⟩
  | 116 => ⟨S512x512, .f32⟩
  | 117 => ⟨S512x512, .f32⟩
  | 118 => ⟨S512x512, .f32⟩
  | 119 => ⟨S512x1, .i32⟩
  | 120 => ⟨S_, .i32⟩
  | 121 => ⟨S512x1, .i32⟩
  | 122 => ⟨S512x1, .i1⟩
  | 123 => ⟨S512x1, .f32⟩
  | 124 => ⟨S512x512, .f32⟩
  | 125 => ⟨S512x512, .f32⟩
  | 126 => ⟨S_, .f32⟩
  | 127 => ⟨S_, .f32⟩
  | _ => ⟨S512x512, .f32⟩

abbrev hbmTy0_2 (i : Nat) : BufTy := match i % 128 with
  | 0 => ⟨S512x512, .i1⟩
  | 1 => ⟨S512x512, .f32⟩
  | 2 => ⟨S512x512, .f32⟩
  | 3 => ⟨S512x512, .f32⟩
  | 4 => ⟨S512x1, .i32⟩
  | 5 => ⟨S_, .i32⟩
  | 6 => ⟨S512x1, .i32⟩
  | 7 => ⟨S512x1, .i1⟩
  | 8 => ⟨S512x1, .f32⟩
  | 9 => ⟨S512x512, .f32⟩
  | 10 => ⟨S512x512, .f32⟩
  | 11 => ⟨S_, .f32⟩
  | 12 => ⟨S_, .f32⟩
  | 13 => ⟨S512x512, .i1⟩
  | 14 => ⟨S512x512, .f32⟩
  | 15 => ⟨S512x512, .f32⟩
  | 16 => ⟨S512x512, .f32⟩
  | 17 => ⟨S512x1, .i32⟩
  | 18 => ⟨S_, .i32⟩
  | 19 => ⟨S512x1, .i32⟩
  | 20 => ⟨S512x1, .i1⟩
  | 21 => ⟨S512x1, .f32⟩
  | 22 => ⟨S512x512, .f32⟩
  | 23 => ⟨S512x512, .f32⟩
  | 24 => ⟨S_, .f32⟩
  | 25 => ⟨S_, .f32⟩
  | 26 => ⟨S512x512, .i1⟩
  | 27 => ⟨S512x512, .f32⟩
  | 28 => ⟨S512x512, .f32⟩
  | 29 => ⟨S512x512, .f32⟩
  | 30 => ⟨S512x1, .i32⟩
  | 31 => ⟨S_, .i32⟩
  | 32 => ⟨S512x1, .i32⟩
  | 33 => ⟨S512x1, .i1⟩
  | 34 => ⟨S512x1, .f32⟩
  | 35 => ⟨S512x512, .f32⟩
  | 36 => ⟨S512x512, .f32⟩
  | 37 => ⟨S_, .f32⟩
  | 38 => ⟨S_, .f32⟩
  | 39 => ⟨S512x512, .i1⟩
  | 40 => ⟨S512x512, .f32⟩
  | 41 => ⟨S512x512, .f32⟩
  | 42 => ⟨S512x512, .f32⟩
  | 43 => ⟨S512x1, .i32⟩
  | 44 => ⟨S_, .i32⟩
  | 45 => ⟨S512x1, .i32⟩
  | 46 => ⟨S512x1, .i1⟩
  | 47 => ⟨S512x1, .f32⟩
  | 48 => ⟨S512x512, .f32⟩
  | 49 => ⟨S512x512, .f32⟩
  | 50 => ⟨S_, .f32⟩
  | 51 => ⟨S_, .f32⟩
  | 52 => ⟨S512x512, .i1⟩
  | 53 => ⟨S512x512, .f32⟩
  | 54 => ⟨S512x512, .f32⟩
  | 55 => ⟨S512x512, .f32⟩
  | 56 => ⟨S512x1, .i32⟩
  | 57 => ⟨S_, .i32⟩
  | 58 => ⟨S512x1, .i32⟩
  | 59 => ⟨S512x1, .i1⟩
  | 60 => ⟨S512x1, .f32⟩
  | 61 => ⟨S512x512, .f32⟩
  | 62 => ⟨S512x512, .f32⟩
  | 63 => ⟨S_, .f32⟩
  | 64 => ⟨S_, .f32⟩
  | 65 => ⟨S512x512, .i1⟩
  | 66 => ⟨S512x512, .f32⟩
  | 67 => ⟨S512x512, .f32⟩
  | 68 => ⟨S512x512, .f32⟩
  | _ => ⟨S512x512, .f32⟩

abbrev hbmTy (i : Nat) : BufTy := match i / 128 with
  | 0 => hbmTy0_0 i
  | 1 => hbmTy0_1 i
  | 2 => hbmTy0_2 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_6 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_7 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_8 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_9 : Ref sig .tc := ⟨.hbm, 115, rfl⟩
abbrev main_v78 : Ref sig .tc := ⟨.hbm, 116, rfl⟩
abbrev main_v79 : Ref sig .tc := ⟨.hbm, 117, rfl⟩
abbrev main_c : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_10 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_11 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_12 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_c_13 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_14 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_15 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_16 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_c_17 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_18 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_19 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_20 : Ref sig .tc := ⟨.hbm, 189, rfl⟩
abbrev main_call7_v0 : Ref sig .tc := ⟨.hbm, 190, rfl⟩
abbrev main_call7_v1 : Ref sig .tc := ⟨.hbm, 191, rfl⟩
abbrev main_call7_v2 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_c_21 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_22 : Ref sig .tc := ⟨.hbm, 202, rfl⟩
abbrev main_call8_v0 : Ref sig .tc := ⟨.hbm, 203, rfl⟩
abbrev main_call8_v1 : Ref sig .tc := ⟨.hbm, 204, rfl⟩
abbrev main_call8_v2 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_23 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_26 : Ref sig .tc := ⟨.hbm, 228, rfl⟩
abbrev main_call10_v0 : Ref sig .tc := ⟨.hbm, 229, rfl⟩
abbrev main_call10_v1 : Ref sig .tc := ⟨.hbm, 230, rfl⟩
abbrev main_call10_v2 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_c_27 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_28 : Ref sig .tc := ⟨.hbm, 241, rfl⟩
abbrev main_call11_v0 : Ref sig .tc := ⟨.hbm, 242, rfl⟩
abbrev main_call11_v1 : Ref sig .tc := ⟨.hbm, 243, rfl⟩
abbrev main_call11_v2 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_c_29 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_cst_30 : Ref sig .tc := ⟨.hbm, 254, rfl⟩
abbrev main_call12_v0 : Ref sig .tc := ⟨.hbm, 255, rfl⟩
abbrev main_call12_v1 : Ref sig .tc := ⟨.hbm, 256, rfl⟩
abbrev main_call12_v2 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_c_31 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_32 : Ref sig .tc := ⟨.hbm, 267, rfl⟩
abbrev main_call13_v0 : Ref sig .tc := ⟨.hbm, 268, rfl⟩
abbrev main_call13_v1 : Ref sig .tc := ⟨.hbm, 269, rfl⟩
abbrev main_call13_v2 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_33 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_34 : Ref sig .tc := ⟨.hbm, 280, rfl⟩
abbrev main_call14_v0 : Ref sig .tc := ⟨.hbm, 281, rfl⟩
abbrev main_call14_v1 : Ref sig .tc := ⟨.hbm, 282, rfl⟩
abbrev main_call14_v2 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_c_35 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_cst_36 : Ref sig .tc := ⟨.hbm, 293, rfl⟩
abbrev main_call15_v0 : Ref sig .tc := ⟨.hbm, 294, rfl⟩
abbrev main_call15_v1 : Ref sig .tc := ⟨.hbm, 295, rfl⟩
abbrev main_call15_v2 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_c_37 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_cst_38 : Ref sig .tc := ⟨.hbm, 306, rfl⟩
abbrev main_call16_v0 : Ref sig .tc := ⟨.hbm, 307, rfl⟩
abbrev main_call16_v1 : Ref sig .tc := ⟨.hbm, 308, rfl⟩
abbrev main_call16_v2 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_c_39 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_40 : Ref sig .tc := ⟨.hbm, 319, rfl⟩
abbrev main_call17_v0 : Ref sig .tc := ⟨.hbm, 320, rfl⟩
abbrev main_call17_v1 : Ref sig .tc := ⟨.hbm, 321, rfl⟩
abbrev main_call17_v2 : Ref sig .tc := ⟨.hbm, 322, rfl⟩
abbrev main_v205 : Ref sig .tc := ⟨.hbm, 323, rfl⟩
abbrev main_v206 : Ref sig .tc := ⟨.hbm, 324, rfl⟩

abbrev nD : Nat := 1
abbrev τ : Topo := Topo.v7x

variable {F : FTy → Type} [FloatOps F]
-- ==== Proof.Common.lean ====
/-
  The protocol of the kernel, written down before its execution is followed: the ring of four devices, the
  buffers and their pieces, the contents every landing hands over, the rounds schedule of the semaphores, what a
  device owes at launch and the order in which waits are allowed.

  Every device has nineteen cells: its barrier (two units, one from either neighbour), and for each of the nine
  transfers it issues — three of token chunks, three of router columns, three of partial sums — a send cell and
  a receive cell.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Pipeline.ValueKit
public import Idealize.ShloMosaic.Lib.Pointwise.Index
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of the handshake: rounds of the semaphore cells with boolean duties. -/
abbrev UB : Type := URounds (GSem nD τ sig) Bool
/-- The staging pipeline's resources beside the handshake's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- The device `k` steps to the right of `c`. -/
abbrev sh (c : Dev nD) (k : ℕ) : Dev nD := ⟨(c.val + k) % 4, Nat.mod_lt _ (by decide)⟩
/-- The right neighbour. -/
abbrev nx (c : Dev nD) : Dev nD := sh c 1
/-- The left neighbour. -/
abbrev pv (c : Dev nD) : Dev nD := sh c 3
/-- The chunk device `c` passes on in step `h` of the gathering: its own, then what came last. -/
abbrev ch (c : Dev nD) (h : Fin 3) : Dev nD := sh c (4 - h.val)

theorem pv_nx (c : Dev nD) : pv (nx c) = c := by revert c; decide
theorem nx_pv (c : Dev nD) : nx (pv c) = c := by revert c; decide
/-- One step to the right, as a permutation of the devices. -/
def ring : Dev nD ≃ Dev nD := ⟨nx, pv, pv_nx, nx_pv⟩

/-! ## The transfers and their cells -/

/-- The semaphore a transfer signals at its sender. The transfers are numbered in program order: token chunk and
    router columns of step 0, of step 1, of step 2, then the three partial sums. -/
def sendNum : Fin 9 → DmaSem sig := ![5, 11, 6, 12, 7, 13, 17, 18, 19]
/-- The semaphore a transfer signals at its receiver. -/
def recvNum : Fin 9 → DmaSem sig := ![8, 14, 9, 15, 10, 16, 20, 21, 22]
/-- Where transfer `i` of device `c` goes: the gathering to the right, the partial sums to the left. -/
def dst (i : Fin 9) (c : Dev nD) : Dev nD := if i.val < 6 then nx c else pv c
/-- Whose transfer `i` lands on device `c`. -/
def src (i : Fin 9) (c : Dev nD) : Dev nD := if i.val < 6 then pv c else nx c

theorem dst_src (i : Fin 9) (c : Dev nD) : dst i (src i c) = c := by revert i c; decide
theorem src_dst (i : Fin 9) (c : Dev nD) : src i (dst i c) = c := by revert i c; decide

/-- The semaphore of the neighbours' handshake. -/
abbrev barS : Sem sig := (SemArray.scalar (sig.barrier 0 rfl) : Sems sig S_).sem

/-- A device's cells: its barrier, its nine send cells, its nine receive cells. -/
abbrev C : Type := Unit ⊕ (Fin 9 ⊕ Fin 9)
/-- The semaphore of a cell. -/
def csem : C → SemLoc sig
  | .inl _ => .reg barS
  | .inr (.inl i) => .dma (sendNum i)
  | .inr (.inr i) => .dma (recvNum i)
abbrev kcell (ck : Dev nD × C) : GSem nD τ sig := ((ck.1 : Thread nD τ), csem ck.2)
abbrev barCell (c : Dev nD) : GSem nD τ sig := ((c : Thread nD τ), .reg barS)
abbrev sendCell (c : Dev nD) (i : Fin 9) : GSem nD τ sig := ((c : Thread nD τ), .dma (sendNum i))
abbrev recvCell (c : Dev nD) (i : Fin 9) : GSem nD τ sig := ((c : Thread nD τ), .dma (recvNum i))
/-- The semaphores of the transfers, which the kernel declares itself. -/
abbrev osem : Fin 9 ⊕ Fin 9 → SemLoc sig := fun k => csem (.inr k)

/-- The cells of the transfer semaphores, by semaphore number. -/
def kindD : Fin 23 → Option C :=
  ![none, none, none, none, none, some (.inr (.inl 0)), some (.inr (.inl 2)), some (.inr (.inl 4)),
    some (.inr (.inr 0)), some (.inr (.inr 2)), some (.inr (.inr 4)),
    some (.inr (.inl 1)), some (.inr (.inl 3)), some (.inr (.inl 5)),
    some (.inr (.inr 1)), some (.inr (.inr 3)), some (.inr (.inr 5)),
    some (.inr (.inl 6)), some (.inr (.inl 7)), some (.inr (.inl 8)),
    some (.inr (.inr 6)), some (.inr (.inr 7)), some (.inr (.inr 8))]
/-- Which of a device's cells a semaphore is, if it is one. -/
def kind : SemLoc sig → Option C
  | .reg s => if s = barS then some (.inl ()) else none
  | .dma q => kindD q

theorem kind_csem : ∀ k : C, kind (csem k) = some k := by decide
theorem kind_bar : kind (.reg barS) = some (.inl ()) := kind_csem (.inl ())
theorem kind_send (i : Fin 9) : kind (.dma (sendNum i)) = some (.inr (.inl i)) := kind_csem (.inr (.inl i))
theorem kind_recv (i : Fin 9) : kind (.dma (recvNum i)) = some (.inr (.inr i)) := kind_csem (.inr (.inr i))

theorem csem_injective : Function.Injective csem := fun a b h =>
  Option.some.inj ((kind_csem a).symm.trans ((congrArg kind h).trans (kind_csem b)))
theorem kcell_injective : Function.Injective (kcell : Dev nD × C → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-! ## The buffers -/

abbrev xM : Memref sig .tc .vmem S128x512 .f32 := Memref.whole cc0_stg0_0
abbrev rM : Memref sig .tc .vmem S512x2 .f32 := Memref.whole cc0_stg1_0
abbrev aM : Memref sig .tc .vmem S2x512x1024 .f32 := Memref.whole cc0_stg2_0
abbrev bM : Memref sig .tc .vmem S2x1024x512 .f32 := Memref.whole cc0_stg3_0
abbrev oM : Memref sig .tc .vmem S128x512 .f32 := Memref.whole cc0_stg4_0
abbrev xgM : Memref sig .tc .vmem S512x512 .f32 := Memref.whole cc0_scratch0
abbrev rgM : Memref sig .tc .vmem S4x512x2 .f32 := Memref.whole cc0_scratch1
abbrev prM : Memref sig .tc .vmem S512x512 .f32 := Memref.whole cc0_scratch2
abbrev stM : Memref sig .tc .vmem S3x128x512 .f32 := Memref.whole cc0_scratch3
abbrev rvM : Memref sig .tc .vmem S3x128x512 .f32 := Memref.whole cc0_scratch4

theorem chunk_inb (j : Dev nD) : ∀ a, (![128 * j.val, 0] : Fin 2 → Nat) a + S128x512.size a ≤ S512x512.size a := by
  revert j; decide
theorem col_inb (j : Dev nD) : ∀ a, (![j.val, 0, 0] : Fin 3 → Nat) a + S1x512x2.size a ≤ S4x512x2.size a := by
  revert j; decide
theorem slot_inb (s : Fin 3) : ∀ a, (![s.val, 0, 0] : Fin 3 → Nat) a + S1x128x512.size a ≤ S3x128x512.size a := by
  revert s; decide

/-- Rows `128 j` to `128 j + 127` of a 512-row buffer: device `j`'s chunk. -/
abbrev chunkR (j : Dev nD) : Rect S512x512 := Rect.unit (s := S512x512) ![128 * j.val, 0] S128x512.size (chunk_inb j)
/-- Slot `j` of the gathered router columns. -/
abbrev colR (j : Dev nD) : Rect S4x512x2 := Rect.unit (s := S4x512x2) ![j.val, 0, 0] S1x512x2.size (col_inb j)
/-- Slot `s` of a three-slot buffer. -/
abbrev slotR (s : Fin 3) : Rect S3x128x512 := Rect.unit (s := S3x128x512) ![s.val, 0, 0] S1x128x512.size (slot_inb s)

/-- Chunk `j` of device `c`'s gathered tokens, held at contents `f`. -/
def xgPts (c j : Dev nD) (f : Buf (Elt F) ((c : Thread nD τ).loc cc0_scratch0)) : sProp 𝕄 :=
  ((c : Thread nD τ).loc cc0_scratch0) ↦[(chunkR j).set]{fullShare} f
/-- Slot `j` of device `c`'s gathered router columns, held at contents `f`. -/
def rgPts (c j : Dev nD) (f : Buf (Elt F) ((c : Thread nD τ).loc cc0_scratch1)) : sProp 𝕄 :=
  ((c : Thread nD τ).loc cc0_scratch1) ↦[(colR j).set]{fullShare} f
/-- Slot `s` of device `c`'s outgoing partial sums, held at contents `f`. -/
def stPts (c : Dev nD) (s : Fin 3) (f : Buf (Elt F) ((c : Thread nD τ).loc cc0_scratch3)) : sProp 𝕄 :=
  ((c : Thread nD τ).loc cc0_scratch3) ↦[(slotR s).set]{fullShare} f
/-- Slot `s` of device `c`'s incoming partial sums, held at contents `f`. -/
def rvPts (c : Dev nD) (s : Fin 3) (f : Buf (Elt F) ((c : Thread nD τ).loc cc0_scratch4)) : sProp 𝕄 :=
  ((c : Thread nD τ).loc cc0_scratch4) ↦[(slotR s).set]{fullShare} f

omit [FloatOps F] [Named F] in
instance xgPts_storable (c j : Dev nD) (f) : BI.Storable (upEmb : UEmb _ 𝕄) (xgPts (F := F) c j f) := by unfold xgPts; infer_instance
omit [FloatOps F] [Named F] in
instance rgPts_storable (c j : Dev nD) (f) : BI.Storable (upEmb : UEmb _ 𝕄) (rgPts (F := F) c j f) := by unfold rgPts; infer_instance
omit [FloatOps F] [Named F] in
instance stPts_storable (c : Dev nD) (s) (f) : BI.Storable (upEmb : UEmb _ 𝕄) (stPts (F := F) c s f) := by unfold stPts; infer_instance
omit [FloatOps F] [Named F] in
instance rvPts_storable (c : Dev nD) (s) (f) : BI.Storable (upEmb : UEmb _ 𝕄) (rvPts (F := F) c s f) := by unfold rvPts; infer_instance

/-! ## Contents -/

/-- Device `c`'s token block as staged. -/
def xstg (c : Dev nD) : (cc0_stg0_0 : Ref sig .tc).ty.Contents (Elt F) :=
  (win0_0.blk (0 : Fin 1)).view.read (Elt F) (m ((c : Thread nD τ).loc main_arg0))
/-- Device `c`'s router columns as staged. -/
def rstg (c : Dev nD) : (cc0_stg1_0 : Ref sig .tc).ty.Contents (Elt F) :=
  (win0_1.blk (0 : Fin 1)).view.read (Elt F) (m ((c : Thread nD τ).loc main_arg1))
/-- Device `c`'s two first-layer weights as staged. -/
def astg (c : Dev nD) : (cc0_stg2_0 : Ref sig .tc).ty.Contents (Elt F) :=
  (win0_2.blk (0 : Fin 1)).view.read (Elt F) (m ((c : Thread nD τ).loc main_arg2))
/-- Device `c`'s two second-layer weights as staged. -/
def bstg (c : Dev nD) : (cc0_stg3_0 : Ref sig .tc).ty.Contents (Elt F) :=
  (win0_3.blk (0 : Fin 1)).view.read (Elt F) (m ((c : Thread nD τ).loc main_arg3))

/-- The gathered tokens, the same on every device: chunk `j` is device `j`'s block. -/
def xgAll : S512x512.Idx → Elt F .f32 := fun i =>
  k0_pay2 (xstg m ⟨(i 0).val / 128, by have : (i 0).val < 512 := (i 0).isLt; show _ < 4; omega⟩)
    (ix2 ⟨(i 0).val % 128, Nat.mod_lt _ (by decide)⟩ (i 1))
/-- The gathered router columns, the same on every device: slot `j` is device `j`'s columns. -/
def rgAll : S4x512x2.Idx → Elt F .f32 := fun i => k0_pay3 (rstg m (i 0)) (ix3 0 (i 1) (i 2))

/-- The device's number as the kernel computes it. -/
abbrev myw (c : Dev nD) : BitVec 32 := Scalar.remsi (Scalar.divsi (Dev.word c) 1#32) 4#32

/-- Member `k` of the staged first-layer weights. -/
abbrev asl (c : Dev nD) (k : Fin 2) : S1x512x1024.Idx → Elt F .f32 := fun j => astg m c (ix3 k (j 1) (j 2))
/-- Member `k` of the staged second-layer weights. -/
abbrev bsl (c : Dev nD) (k : Fin 2) : S1x1024x512.Idx → Elt F .f32 := fun j => bstg m c (ix3 k (j 1) (j 2))

/-- Device `c`'s partial sums over its two experts, for every token. -/
def prAll (c : Dev nD) : S512x512.Idx → Elt F .f32 :=
  k0_pay9 (k0_pay8 (myw c) (xgAll m) (iota .tc S512x8 32 [1] iota_S512x8_d1_w32)
    (k0_pay5 (k0_pay4 (xgAll m) (rgAll m))) k0_pay6 (k0_pay7 (myw c)) (asl m c 0) (bsl m c 0) (asl m c 1) (bsl m c 1))
/-- Its chunk `j`. -/
def prChunk (c j : Dev nD) : S128x512.Idx → Elt F .f32 := fun i =>
  prAll m c (ix2 ⟨128 * j.val + (i 0).val, by
    have h1 : (i 0).val < 128 := (i 0).isLt
    have h2 : j.val < 4 := j.isLt
    omega⟩ (i 1))

/-- What device `c` sends left first: its own partial sums of the chunk one device to its right. -/
def st0 (c : Dev nD) : S1x128x512.Idx → Elt F .f32 := k0_pay10 (prChunk m c (sh c 1))
/-- Then what came from the right plus its own, for the chunk two devices to its right; -/
def st1 (c : Dev nD) : S1x128x512.Idx → Elt F .f32 := k0_pay11 (prChunk m c (sh c 2)) (st0 m (nx c))
/-- and again, for the chunk three devices to its right. -/
def st2 (c : Dev nD) : S1x128x512.Idx → Elt F .f32 := k0_pay12 (prChunk m c (sh c 3)) (st1 m (nx c))
/-- The three, by slot. -/
def stSlot (c : Dev nD) : Fin 3 → S1x128x512.Idx → Elt F .f32 := ![st0 m c, st1 m c, st2 m c]
/-- The outgoing buffer with its three slots written. -/
def stAll (c : Dev nD) : S3x128x512.Idx → Elt F .f32 := fun i => stSlot m c (i 0) (ix3 0 (i 1) (i 2))
/-- Device `c`'s result: what came last plus its own partial sums of its own chunk. -/
def outAt (c : Dev nD) : S128x512.Idx → Elt F .f32 := k0_pay1 (prChunk m c c) (st2 m (nx c))

/-! ## Payloads -/

/-- What the handshake hands device `c`: from its right neighbour (`false`) the chunks and slots of that
    neighbour's gathering buffers it is going to write, from its left neighbour (`true`) that neighbour's three
    incoming slots. -/
def barPay (c : Dev nD) (d : Bool) : sProp 𝕄 := if d then
    iprop(∃ f, rvPts (pv c) 0 f ∗ rvPts (pv c) 1 f ∗ rvPts (pv c) 2 f)
  else iprop((∃ f, xgPts (nx c) (ch c 0) f ∗ xgPts (nx c) (ch c 1) f ∗ xgPts (nx c) (ch c 2) f)
    ∗ ∃ f, rgPts (nx c) (ch c 0) f ∗ rgPts (nx c) (ch c 1) f ∗ rgPts (nx c) (ch c 2) f)
/-- What a transfer leaves its sender with again: the piece it read. -/
def sendPay (c : Dev nD) (i : Fin 9) : sProp 𝕄 :=
  (![xgPts c (ch c 0) (xgAll m), rgPts c (ch c 0) (rgAll m), xgPts c (ch c 1) (xgAll m), rgPts c (ch c 1) (rgAll m),
     xgPts c (ch c 2) (xgAll m), rgPts c (ch c 2) (rgAll m),
     stPts c 0 (stAll m c), stPts c 1 (stAll m c), stPts c 2 (stAll m c)] : Fin 9 → sProp 𝕄) i
/-- What a transfer hands its receiver: the piece it wrote, at the contents sent. -/
def recvPay (c : Dev nD) (i : Fin 9) : sProp 𝕄 :=
  (![xgPts c (ch (pv c) 0) (xgAll m), rgPts c (ch (pv c) 0) (rgAll m), xgPts c (ch (pv c) 1) (xgAll m), rgPts c (ch (pv c) 1) (rgAll m),
     xgPts c (ch (pv c) 2) (xgAll m), rgPts c (ch (pv c) 2) (rgAll m),
     rvPts c 0 (stAll m (nx c)), rvPts c 1 (stAll m (nx c)), rvPts c 2 (stAll m (nx c))] : Fin 9 → sProp 𝕄) i

omit [FloatOps F] [Named F] in
instance barPay_storable (c : Dev nD) (d : Bool) : BI.Storable (upEmb : UEmb _ 𝕄) (barPay (F := F) c d) := by
  unfold barPay; split <;> infer_instance
instance sendPay_storable (c : Dev nD) (i : Fin 9) : BI.Storable (upEmb : UEmb _ 𝕄) (sendPay (F := F) m c i) := by
  unfold sendPay
  fin_cases i <;> first | exact xgPts_storable _ _ _ | exact rgPts_storable _ _ _ | exact stPts_storable _ _ _
instance recvPay_storable (c : Dev nD) (i : Fin 9) : BI.Storable (upEmb : UEmb _ 𝕄) (recvPay (F := F) m c i) := by
  unfold recvPay
  fin_cases i <;> first | exact xgPts_storable _ _ _ | exact rgPts_storable _ _ _ | exact rvPts_storable _ _ _

/-- The payload of a cell's duty. -/
def cellPay (c : Dev nD) (d : Bool) : C → sProp 𝕄
  | .inl _ => barPay c d
  | .inr (.inl i) => sendPay m c i
  | .inr (.inr i) => recvPay m c i

/-- The bytes of a transfer, as its semaphores count them. -/
abbrev NX : ℕ := (xM : Memref sig .tc .vmem S128x512 .f32).view.dmaCredit
abbrev NR : ℕ := ((rgM : Memref sig .tc .vmem S4x512x2 .f32).slice (colR 0) (fun _ => rfl)).view.dmaCredit
def amt (i : Fin 9) : ℕ := (![NX, NR, NX, NR, NX, NR, NX, NX, NX] : Fin 9 → ℕ) i
theorem NX_pos : 0 < NX := View.dmaCredit_pos _ (by decide)
theorem NR_pos : 0 < NR := View.dmaCredit_pos _ (by decide)
theorem amt_pos (i : Fin 9) : 0 < amt i := by
  unfold amt; fin_cases i <;> first | exact NX_pos | exact NR_pos
/-- The units of a cell's duty. -/
def cellAmt : C → ℕ
  | .inl _ => 1
  | .inr (.inl i) => amt i
  | .inr (.inr i) => amt i

/-! ## The schedule -/

/-- The duties of a cell: two of a barrier, one of a transfer's semaphore. -/
def cellDuties : C → Finset Bool
  | .inl _ => Finset.univ
  | .inr _ => {false}

/-- One round of every cell. -/
def rd : Rounds.Schedule (GSem nD τ sig) Bool 𝕄 where
  duties g r := if r = 0 ∧ g.1.2 = .tc then (kind g.2).elim ∅ cellDuties else ∅
  unitless _ := False
  amount g _ _ := (kind g.2).elim 1 cellAmt
  payload g _ d := (kind g.2).elim iprop(emp) (cellPay m g.1.1 d)
  amount_pos g _ _ _ := by
    cases h : kind g.2 with
    | none => exact Nat.one_pos
    | some k => rcases k with _ | i | i; exacts [Nat.one_pos, amt_pos i, amt_pos i]

instance rd_payload_storable (g : GSem nD τ sig) (r : ℕ) (d : Bool) :
    BI.Storable (upEmb : UEmb _ 𝕄) ((rd (F := F) m).payload g r d) := by
  show BI.Storable upEmb ((kind g.2).elim iprop(emp) (cellPay m g.1.1 d))
  cases h : kind g.2 with
  | none => dsimp only [Option.elim]; infer_instance
  | some k => rcases k with _ | i | i <;> dsimp only [Option.elim, cellPay] <;> infer_instance

section Sched
variable (c : Dev nD) (i : Fin 9)

theorem duties_cell (k : C) : (rd (F := F) m).duties (kcell (c, k)) 0 = cellDuties k := by
  dsimp only [rd]; rw [if_pos ⟨rfl, rfl⟩, kind_csem]; rfl
theorem duties_bar : (rd (F := F) m).duties (barCell c) 0 = Finset.univ := duties_cell m c (.inl ())
theorem duties_send : (rd (F := F) m).duties (sendCell c i) 0 = {false} := duties_cell m c (.inr (.inl i))
theorem duties_recv : (rd (F := F) m).duties (recvCell c i) 0 = {false} := duties_cell m c (.inr (.inr i))
theorem duties_later (g : GSem nD τ sig) : ∀ r, 1 ≤ r → (rd (F := F) m).duties g r = ∅ :=
  fun r hr => by dsimp only [rd]; rw [if_neg fun h => by omega]

theorem amount_cell (k : C) (d : Bool) : (rd (F := F) m).amount (kcell (c, k)) 0 d = cellAmt k := by
  dsimp only [rd]; rw [kind_csem]; rfl
theorem amount_bar (d : Bool) : (rd (F := F) m).amount (barCell c) 0 d = 1 := amount_cell m c (.inl ()) d
theorem amount_send (d : Bool) : (rd (F := F) m).amount (sendCell c i) 0 d = amt i := amount_cell m c (.inr (.inl i)) d
theorem amount_recv (d : Bool) : (rd (F := F) m).amount (recvCell c i) 0 d = amt i := amount_cell m c (.inr (.inr i)) d

theorem payload_cell (k : C) (d : Bool) : (rd (F := F) m).payload (kcell (c, k)) 0 d = cellPay m c d k := by
  dsimp only [rd]; rw [kind_csem]; rfl
theorem payload_bar (d : Bool) : (rd (F := F) m).payload (barCell c) 0 d = barPay c d := payload_cell m c (.inl ()) d
theorem payload_send (d : Bool) : (rd (F := F) m).payload (sendCell c i) 0 d = sendPay m c i := payload_cell m c (.inr (.inl i)) d
theorem payload_recv (d : Bool) : (rd (F := F) m).payload (recvCell c i) 0 d = recvPay m c i := payload_cell m c (.inr (.inr i)) d

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (rd (F := F) m).expect (sendCell c i) 0 = amt i := by
  unfold Schedule.expect Schedule.amountOf; rw [duties_send, Finset.sum_singleton, amount_send]
theorem expect_recv : (rd (F := F) m).expect (recvCell c i) 0 = amt i := by
  unfold Schedule.expect Schedule.amountOf; rw [duties_recv, Finset.sum_singleton, amount_recv]

/-- Everything a full round of a cell hands its owner. -/
theorem rest_bar : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((rd (F := F) m).duties (sendCell c i) 0 \ ∅) (fun d => (rd (F := F) m).payload (sendCell c i) 0 d) = sendPay m c i := by
  rw [Finset.sdiff_empty, duties_send, bigSep_singleton, payload_send]
theorem rest_recv : bigSep ((rd (F := F) m).duties (recvCell c i) 0 \ ∅) (fun d => (rd (F := F) m).payload (recvCell c i) 0 d) = recvPay m c i := by
  rw [Finset.sdiff_empty, duties_recv, bigSep_singleton, payload_recv]

end Sched

/-! ## What a device owes, and in which order it may wait -/

/-- What device `c` still owes when the transfers `l` are still to be issued: each one's bytes at its receiver. -/
def Ow (c : Dev nD) : List (Fin 9) → CellTallies nD τ sig Unit
  | [] => 0
  | i :: l => Ow c l + tallyAt (recvCell (dst i c) i) () (amt i)
/-- All nine transfers, in program order. -/
abbrev allT : List (Fin 9) := [0, 1, 2, 3, 4, 5, 6, 7, 8]
/-- At launch, after the first signal: the transfers and the right neighbour's unit; -/
def O₁ (c : Dev nD) : CellTallies nD τ sig Unit := Ow c allT + tallyAt (barCell (nx c)) () 1
/-- at launch. -/
def O₀ (c : Dev nD) : CellTallies nD τ sig Unit := O₁ c + tallyAt (barCell (pv c)) () 1

def L (g : GSem nD τ sig) : Finset Unit := if g.1.2 = .tc then {()} else ∅
/-- The level of a semaphore: the barrier first, then the receive cells in program order; all others below. -/
def lvS (sm : SemLoc sig) : ℕ := match kind sm with
  | some (.inl _) => 1
  | some (.inr (.inr i)) => 2 + i.val
  | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := by unfold lvS; rw [kind_bar]
theorem lvS_send (i : Fin 9) : lvS (.dma (sendNum i)) = 0 := by unfold lvS; rw [kind_send]
theorem lvS_recv (i : Fin 9) : lvS (.dma (recvNum i)) = 2 + i.val := by unfold lvS; rw [kind_recv]

theorem Ow_pos {c : Dev nD} {l : List (Fin 9)} {g : GSem nD τ sig} {u : Unit} (h : 0 < Ow c l g u) :
    ∃ i ∈ l, g = recvCell (dst i c) i := by
  induction l with
  | nil => exact absurd h (Nat.lt_irrefl 0)
  | cons i l ih =>
    unfold Ow at h
    rw [Pi.add_apply, Finsupp.add_apply, tallyAt_apply] at h
    by_cases hg : g = recvCell (dst i c) i ∧ u = ()
    · exact ⟨i, List.mem_cons_self, hg.1⟩
    · rw [if_neg hg, Nat.add_zero] at h
      obtain ⟨j, hj, e⟩ := ih h
      exact ⟨j, List.mem_cons_of_mem _ hj, e⟩

theorem add_two_pos {X : CellTallies nD τ sig Unit} {g₁ g₂ g : GSem nD τ sig} {u : Unit}
    (h : 0 < (X + tallyAt g₁ () 1 + tallyAt g₂ () 1) g u) : 0 < X g u ∨ g = g₁ ∨ g = g₂ := by
  rw [Pi.add_apply, Finsupp.add_apply, Pi.add_apply, Finsupp.add_apply, tallyAt_apply, tallyAt_apply] at h
  by_cases h1 : g = g₁
  · exact .inr (.inl h1)
  by_cases h2 : g = g₂
  · exact .inr (.inr h2)
  rw [if_neg fun h => h1 h.1, if_neg fun h => h2 h.1] at h
  exact .inl h

theorem O₀_pos {c : Dev nD} {g : GSem nD τ sig} {u : Unit} (h : 0 < O₀ c g u) :
    (∃ i ∈ allT, g = recvCell (dst i c) i) ∨ g = barCell (nx c) ∨ g = barCell (pv c) :=
  (add_two_pos (X := Ow c allT) h).imp_left Ow_pos

/-- A wait below every receive cell still owed is allowed. -/
theorem mayWait_Ow (c : Dev nD) (sm : SemLoc sig) (l : List (Fin 9)) (h : ∀ i ∈ l, lvS sm < 2 + i.val) :
    (levAts L lv : sProp 𝕄) ⊢ MayWait (c : Thread nD τ) sm () (Ow c l) :=
  MayOwe.of_cut (L := L) (lev := lv) (lvS sm) (fun p hp => by rw [Finset.mem_singleton.mp hp, L_tc]; exact Finset.mem_singleton_self _)
    (fun g u hg => by obtain ⟨i, -, rfl⟩ := Ow_pos hg; exact Finset.mem_singleton_self _)
    (fun p hp => by rw [Finset.mem_singleton.mp hp]; exact le_refl _)
    (fun g u hg => by obtain ⟨i, hi, rfl⟩ := Ow_pos hg; exact lt_of_lt_of_eq (h i hi) (lvS_recv i).symm)

/-- The staging semaphores are below everything owed. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨i, -, rfl⟩ | rfl | rfl <;> exact Finset.mem_singleton_self _)
      (fun p hp => by rw [Finset.mem_singleton.mp hp]; exact le_of_eq hq)
      (fun g u hg => by
        rcases O₀_pos hg with ⟨i, -, rfl⟩ | rfl | rfl
        · exact lt_of_lt_of_eq (by omega) (lvS_recv i).symm
        · exact lt_of_lt_of_eq (by omega) lvS_bar.symm
        · exact lt_of_lt_of_eq (by omega) lvS_bar.symm)
  · rw [MayWait_zero]; iintro -; iempintro

end Cert.KernelIdeal.Moe

end
-- ==== Proof.Pieces.lean ====
/-
  The pieces of the buffers: the two gathering buffers as their four chunks or slots, the two partial-sum buffers
  as their three slots, what a load of a piece reads and what a store or a landing leaves in it.
-/
module

public import proofs.«01_k».proof.Proof.Common

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The offsets the kernel computes -/

theorem off3_eq (c : Dev nD) (h : Fin 3) : k0_off3 c (BitVec.ofNat 32 h.val) = ![128 * (ch c h).val, 0] := by
  revert c h; decide +kernel
theorem off4_eq (c : Dev nD) (h : Fin 3) : k0_off4 c (BitVec.ofNat 32 h.val) = ![(ch c h).val, 0, 0] := by
  revert c h; decide +kernel
theorem off5_eq (c : Dev nD) (s : Fin 3) : k0_off5 c (BitVec.ofNat 32 s.val) = ![128 * (sh c (1 + s.val)).val, 0] := by
  revert c s; decide +kernel

theorem dev1_eq : ∀ c : Dev nD, (⟨k0_dev1 c, k0_dev1_lt c⟩ : Dev nD) = pv c := by decide +kernel
theorem dev2_eq : ∀ c : Dev nD, (⟨k0_dev2 c, k0_dev2_lt c⟩ : Dev nD) = nx c := by decide +kernel
theorem dev3_eq : ∀ c : Dev nD, (⟨k0_dev3 c, k0_dev3_lt c⟩ : Dev nD) = dst 0 c := by decide +kernel
theorem dev4_eq : ∀ c : Dev nD, (⟨k0_dev4 c, k0_dev4_lt c⟩ : Dev nD) = dst 1 c := by decide +kernel
theorem dev5_eq : ∀ c : Dev nD, (⟨k0_dev5 c, k0_dev5_lt c⟩ : Dev nD) = dst 2 c := by decide +kernel
theorem dev6_eq : ∀ c : Dev nD, (⟨k0_dev6 c, k0_dev6_lt c⟩ : Dev nD) = dst 3 c := by decide +kernel
theorem dev7_eq : ∀ c : Dev nD, (⟨k0_dev7 c, k0_dev7_lt c⟩ : Dev nD) = dst 4 c := by decide +kernel
theorem dev8_eq : ∀ c : Dev nD, (⟨k0_dev8 c, k0_dev8_lt c⟩ : Dev nD) = dst 5 c := by decide +kernel
theorem dev9_eq : ∀ c : Dev nD, (⟨k0_dev9 c, k0_dev9_lt c⟩ : Dev nD) = dst 6 c := by decide +kernel
theorem dev10_eq : ∀ c : Dev nD, (⟨k0_dev10 c, k0_dev10_lt c⟩ : Dev nD) = dst 7 c := by decide +kernel
theorem dev11_eq : ∀ c : Dev nD, (⟨k0_dev11 c, k0_dev11_lt c⟩ : Dev nD) = dst 8 c := by decide +kernel

/-! ## The buffers as their pieces -/

omit [FloatOps F] [Named F] in
theorem chunk_mem (j : Dev nD) (i : S512x512.Idx) : i ∈ (chunkR j).set ↔ 128 * j.val ≤ (i 0).val ∧ (i 0).val < 128 * j.val + 128 := by
  rw [Rect.mem_set_unit]
  constructor
  · intro h; exact h 0
  · intro h a
    match a with
    | 0 => exact h
    | 1 => exact ⟨Nat.zero_le _, by show (i 1).val < 0 + 512; have := (i 1).isLt; rw [Nat.zero_add]; exact this⟩
omit [FloatOps F] [Named F] in
theorem col_mem (j : Dev nD) (i : S4x512x2.Idx) : i ∈ (colR j).set ↔ (i 0).val = j.val := by
  rw [Rect.mem_set_unit]
  constructor
  · intro h; have h0 : j.val ≤ (i 0).val ∧ (i 0).val < j.val + 1 := h 0; omega
  · intro h a
    match a with
    | 0 => exact ⟨le_of_eq h.symm, by show (i 0).val < j.val + 1; omega⟩
    | 1 => exact ⟨Nat.zero_le _, by show (i 1).val < 0 + 512; have := (i 1).isLt; rw [Nat.zero_add]; exact this⟩
    | 2 => exact ⟨Nat.zero_le _, by show (i 2).val < 0 + 2; have := (i 2).isLt; rw [Nat.zero_add]; exact this⟩
omit [FloatOps F] [Named F] in
theorem slot_mem (s : Fin 3) (i : S3x128x512.Idx) : i ∈ (slotR s).set ↔ (i 0).val = s.val := by
  rw [Rect.mem_set_unit]
  constructor
  · intro h; have h0 : s.val ≤ (i 0).val ∧ (i 0).val < s.val + 1 := h 0; omega
  · intro h a
    match a with
    | 0 => exact ⟨le_of_eq h.symm, by show (i 0).val < s.val + 1; omega⟩
    | 1 => exact ⟨Nat.zero_le _, by show (i 1).val < 0 + 128; have := (i 1).isLt; rw [Nat.zero_add]; exact this⟩
    | 2 => exact ⟨Nat.zero_le _, by show (i 2).val < 0 + 512; have := (i 2).isLt; rw [Nat.zero_add]; exact this⟩

/-- A buffer held whole is its pieces held each, for pieces that partition it. -/
theorem pts_pieces {T : Type} [Fintype T] [DecidableEq T] (ℓ : Loc nD τ sig) (K : T → Finset (Idx ℓ)) (f : Buf (Elt F) ℓ)
    (hall : ∀ i, ∃ t, i ∈ K t) (hdisj : ∀ t t' i, i ∈ K t → i ∈ K t' → t = t') :
    (ℓ ↦{fullShare} f : sProp 𝕄) = bigSep Finset.univ fun t => ℓ ↦[K t]{fullShare} f := by
  rw [← pointsTo_biUnion Finset.univ K fun t _ t' _ hne =>
    Finset.disjoint_left.mpr fun i h h' => hne (hdisj t t' i h h')]
  rw [show Finset.univ.biUnion K = (Finset.univ : Finset (Idx ℓ)) from
    Finset.eq_univ_iff_forall.mpr fun i => Finset.mem_biUnion.mpr ((hall i).imp fun t h => ⟨Finset.mem_univ _, h⟩)]

theorem xg_pieces (c : Dev nD) (f : Buf (Elt F) ((c : Thread nD τ).loc cc0_scratch0)) :
    (((c : Thread nD τ).loc cc0_scratch0) ↦{fullShare} f : sProp 𝕄) = bigSep Finset.univ fun j : Dev nD => xgPts c j f :=
  pts_pieces ((c : Thread nD τ).loc cc0_scratch0) (fun j : Dev nD => (chunkR j).set) f
    (fun i => ⟨⟨((show S512x512.Idx from i) 0).val / 128, by
        have : ((show S512x512.Idx from i) 0).val < 512 := ((show S512x512.Idx from i) 0).isLt; show _ < 4; omega⟩,
      (chunk_mem _ i).mpr ⟨by dsimp only; omega, by dsimp only; omega⟩⟩)
    (fun t t' i h h' => by
      have h1 := (chunk_mem t i).mp h; have h2 := (chunk_mem t' i).mp h'
      exact Fin.ext (by omega))
theorem rg_pieces (c : Dev nD) (f : Buf (Elt F) ((c : Thread nD τ).loc cc0_scratch1)) :
    (((c : Thread nD τ).loc cc0_scratch1) ↦{fullShare} f : sProp 𝕄) = bigSep Finset.univ fun j : Dev nD => rgPts c j f :=
  pts_pieces ((c : Thread nD τ).loc cc0_scratch1) (fun j : Dev nD => (colR j).set) f
    (fun i => ⟨(show S4x512x2.Idx from i) 0, (col_mem _ i).mpr rfl⟩)
    (fun t t' i h h' => Fin.ext (((col_mem t i).mp h).symm.trans ((col_mem t' i).mp h')))
theorem st_pieces (c : Dev nD) (f : Buf (Elt F) ((c : Thread nD τ).loc cc0_scratch3)) :
    (((c : Thread nD τ).loc cc0_scratch3) ↦{fullShare} f : sProp 𝕄) = iprop(stPts c 0 f ∗ stPts c 1 f ∗ stPts c 2 f) := by
  rw [pts_pieces ((c : Thread nD τ).loc cc0_scratch3) (fun s : Fin 3 => (slotR s).set) f
    (fun i => ⟨(show S3x128x512.Idx from i) 0, (slot_mem _ i).mpr rfl⟩)
    (fun t t' i h h' => Fin.ext (((slot_mem t i).mp h).symm.trans ((slot_mem t' i).mp h')))]
  exact bigSep_univ_eq_bigSepL [0, 1, 2] (by decide) (by decide) _
theorem rv_pieces (c : Dev nD) (f : Buf (Elt F) ((c : Thread nD τ).loc cc0_scratch4)) :
    (((c : Thread nD τ).loc cc0_scratch4) ↦{fullShare} f : sProp 𝕄) = iprop(rvPts c 0 f ∗ rvPts c 1 f ∗ rvPts c 2 f) := by
  rw [pts_pieces ((c : Thread nD τ).loc cc0_scratch4) (fun s : Fin 3 => (slotR s).set) f
    (fun i => ⟨(show S3x128x512.Idx from i) 0, (slot_mem _ i).mpr rfl⟩)
    (fun t t' i h h' => Fin.ext (((slot_mem t i).mp h).symm.trans ((slot_mem t' i).mp h')))]
  exact bigSep_univ_eq_bigSepL [0, 1, 2] (by decide) (by decide) _

/-- A family over the devices, the own member and those the handshake hands to the left neighbour; -/
theorem devs_before (c : Dev nD) (Φ : Dev nD → sProp 𝕄) :
    bigSep Finset.univ Φ = iprop(Φ (ch c 0) ∗ Φ (ch (pv c) 0) ∗ Φ (ch (pv c) 1) ∗ Φ (ch (pv c) 2)) :=
  bigSep_univ_eq_bigSepL [ch c 0, ch (pv c) 0, ch (pv c) 1, ch (pv c) 2] (by revert c; decide) (by revert c; decide) Φ
/-- and the members passed on and the one that came last. -/
theorem devs_after (c : Dev nD) (Φ : Dev nD → sProp 𝕄) :
    bigSep Finset.univ Φ = iprop(Φ (ch c 0) ∗ Φ (ch c 1) ∗ Φ (ch c 2) ∗ Φ (ch (pv c) 2)) :=
  bigSep_univ_eq_bigSepL [ch c 0, ch c 1, ch c 2, ch (pv c) 2] (by revert c; decide) (by revert c; decide) Φ

theorem ch_self (c : Dev nD) : ch c 0 = c := by revert c; decide
theorem ch_pv0 (c : Dev nD) : ch (pv c) 0 = ch c 1 := by revert c; decide
theorem ch_pv1 (c : Dev nD) : ch (pv c) 1 = ch c 2 := by revert c; decide

/-! ## Reads -/

/-- Chunk `j` of the gathered tokens is device `j`'s block. -/
theorem read_xg (j : Dev nD) : (xgM.access (chunkR j)).read (Elt F) (xgAll m) = k0_pay2 (xstg m j) := by
  funext x
  have h0 : (((chunkR j).emb x) 0 : Nat) = 128 * j.val + (x 0).val := ValueKit.rect_emb_unit_val _ _ _ x 0
  have h1 : (((chunkR j).emb x) 1 : Nat) = 0 + (x 1).val := ValueKit.rect_emb_unit_val _ _ _ x 1
  have hx : (x 0).val < 128 := (x 0).isLt
  show k0_pay2 (xstg m ⟨(((chunkR j).emb x) 0 : Nat) / 128, _⟩) (ix2 ⟨(((chunkR j).emb x) 0 : Nat) % 128, _⟩ (((chunkR j).emb x) 1)) = _
  have e1 : (⟨(((chunkR j).emb x) 0 : Nat) / 128, by rw [h0]; have : j.val < 4 := j.isLt; show _ < 4; omega⟩ : Dev nD) = j := Fin.ext (by show (((chunkR j).emb x) 0 : Nat) / 128 = _; omega)
  refine congr (congrArg (fun d => k0_pay2 (xstg m d)) e1) ?_
  funext a
  match a with
  | 0 => exact Fin.ext (by show (((chunkR j).emb x) 0 : Nat) % 128 = _; omega)
  | 1 => exact Fin.ext (by rw [Nat.zero_add] at h1; exact h1)

/-- Slot `j` of the gathered router columns is device `j`'s columns. -/
theorem read_rg (j : Dev nD) : (rgM.access (colR j)).read (Elt F) (rgAll m) = k0_pay3 (rstg m j) := by
  funext x
  have h0 : (((colR j).emb x) 0 : Nat) = j.val + (x 0).val := ValueKit.rect_emb_unit_val _ _ _ x 0
  have h1 : (((colR j).emb x) 1 : Nat) = 0 + (x 1).val := ValueKit.rect_emb_unit_val _ _ _ x 1
  have h2 : (((colR j).emb x) 2 : Nat) = 0 + (x 2).val := ValueKit.rect_emb_unit_val _ _ _ x 2
  have hx : (x 0).val < 1 := (x 0).isLt
  show k0_pay3 (rstg m (((colR j).emb x) 0)) (ix3 0 (((colR j).emb x) 1) (((colR j).emb x) 2)) = _
  have e1 : (((colR j).emb x) 0 : Dev nD) = j := Fin.ext (by omega)
  refine congr (congrArg (fun d => k0_pay3 (rstg m d)) e1) ?_
  funext a
  match a with
  | 0 => exact Fin.ext (by show 0 = (x 0).val; omega)
  | 1 => exact Fin.ext (by rw [Nat.zero_add] at h1; exact h1)
  | 2 => exact Fin.ext (by rw [Nat.zero_add] at h2; exact h2)

/-- Slot `s` of the outgoing partial sums; -/
theorem read_st (c : Dev nD) (s : Fin 3) : (stM.access (slotR s)).read (Elt F) (stAll m c) = stSlot m c s := by
  funext x
  have h0 : (((slotR s).emb x) 0 : Nat) = s.val + (x 0).val := ValueKit.rect_emb_unit_val _ _ _ x 0
  have h1 : (((slotR s).emb x) 1 : Nat) = 0 + (x 1).val := ValueKit.rect_emb_unit_val _ _ _ x 1
  have h2 : (((slotR s).emb x) 2 : Nat) = 0 + (x 2).val := ValueKit.rect_emb_unit_val _ _ _ x 2
  have hx : (x 0).val < 1 := (x 0).isLt
  show stSlot m c (((slotR s).emb x) 0) (ix3 0 (((slotR s).emb x) 1) (((slotR s).emb x) 2)) = _
  have e1 : (((slotR s).emb x) 0 : Fin 3) = s := Fin.ext (by omega)
  refine congr (congrArg (fun d => stSlot m c d) e1) ?_
  funext a
  match a with
  | 0 => exact Fin.ext (by show 0 = (x 0).val; omega)
  | 1 => exact Fin.ext (by rw [Nat.zero_add] at h1; exact h1)
  | 2 => exact Fin.ext (by rw [Nat.zero_add] at h2; exact h2)
/-- the same of the incoming ones, at the same contents. -/
theorem read_rv (c : Dev nD) (s : Fin 3) : (rvM.access (slotR s)).read (Elt F) (stAll m c) = stSlot m c s := read_st m c s

/-- Chunk `j` of the partial sums. -/
theorem read_pr (c j : Dev nD) : (prM.access (chunkR j)).read (Elt F) (prAll m c) = prChunk m c j := by
  funext x
  have h0 : (((chunkR j).emb x) 0 : Nat) = 128 * j.val + (x 0).val := ValueKit.rect_emb_unit_val _ _ _ x 0
  have h1 : (((chunkR j).emb x) 1 : Nat) = 0 + (x 1).val := ValueKit.rect_emb_unit_val _ _ _ x 1
  show prAll m c ((chunkR j).emb x) = prAll m c _
  refine congrArg _ ?_
  funext a
  match a with
  | 0 => exact Fin.ext h0
  | 1 => exact Fin.ext (by rw [Nat.zero_add] at h1; exact h1)

theorem slot2_inb (k : Fin 2) : ∀ a, (![k.val, 0, 0] : Fin 3 → Nat) a + S1x512x1024.size a ≤ S2x512x1024.size a := by
  revert k; decide
theorem slot2b_inb (k : Fin 2) : ∀ a, (![k.val, 0, 0] : Fin 3 → Nat) a + S1x1024x512.size a ≤ S2x1024x512.size a := by
  revert k; decide
/-- Member `k` of the first-layer weights, -/
theorem read_a (c : Dev nD) (k : Fin 2) :
    (aM.access (Rect.unit (s := S2x512x1024) ![k.val, 0, 0] S1x512x1024.size (slot2_inb k))).read (Elt F) (astg m c) = asl m c k := by
  funext x
  show astg m c _ = astg m c _
  refine congrArg _ ?_
  funext a
  match a with
  | 0 => exact Fin.ext ((ValueKit.rect_emb_unit_val _ _ _ x 0).trans (by have hx : (x 0).val < 1 := (x 0).isLt; show k.val + (x 0).val = k.val; omega))
  | 1 => exact Fin.ext ((ValueKit.rect_emb_unit_val _ _ _ x 1).trans (Nat.zero_add _))
  | 2 => exact Fin.ext ((ValueKit.rect_emb_unit_val _ _ _ x 2).trans (Nat.zero_add _))
/-- and of the second-layer weights. -/
theorem read_b (c : Dev nD) (k : Fin 2) :
    (bM.access (Rect.unit (s := S2x1024x512) ![k.val, 0, 0] S1x1024x512.size (slot2b_inb k))).read (Elt F) (bstg m c) = bsl m c k := by
  funext x
  show bstg m c _ = bstg m c _
  refine congrArg _ ?_
  funext a
  match a with
  | 0 => exact Fin.ext ((ValueKit.rect_emb_unit_val _ _ _ x 0).trans (by have hx : (x 0).val < 1 := (x 0).isLt; show k.val + (x 0).val = k.val; omega))
  | 1 => exact Fin.ext ((ValueKit.rect_emb_unit_val _ _ _ x 1).trans (Nat.zero_add _))
  | 2 => exact Fin.ext ((ValueKit.rect_emb_unit_val _ _ _ x 2).trans (Nat.zero_add _))

/-! ## Writes -/

/-- Writing through a view what it reads of `g` makes its elements those of `g`. -/
theorem write_read_on {κ : Kind} {sp : Space} {s : Shape} {e : EltTy} (v : View sig κ sp s e) (f g : v.ty.Contents (Elt F)) :
    ∀ i ∈ v.set, v.write (Elt F) f (v.read (Elt F) g) Finset.univ i = g i := fun i hi => by
  rw [View.write_read_eq_piecewise, View.setOn_univ, Finset.piecewise_eq_of_mem _ _ _ hi]

/-- A store to a piece of what the piece is to hold. -/
theorem wp_store_piece (c : Dev nD) {cs : CoreSpace} {s : Shape} {e : EltTy} {M : Memref sig .tc cs s e} {r : Rect s}
    {w : r.shape.Idx → Elt F e} {hx : (M.access r).Stores Finset.univ} {hm}
    {α : Type} {Q : α → sProp 𝕄} {k : PUnit → Prog (TpuEff nD τ sig (Elt F) Λ₀ .tc) α}
    (f g : Buf (Elt F) ((M.access r).loc (c : Thread nD τ))) (hw : w = (M.access r).read (Elt F) g) :
    ((M.access r).loc (c : Thread nD τ) ↦[(M.access r).set]{fullShare} f)
      ⊢ iprop((((M.access r).loc (c : Thread nD τ) ↦[(M.access r).set]{fullShare} g)
            -∗ wp frame (wpE (defs₀ (F := F)) Variants.none (c : Thread nD τ) none) Set.univ (k ⟨⟩) Q)
        -∗ wp frame (wpE (defs₀ (F := F)) Variants.none (c : Thread nD τ) none) Set.univ (.op (.store M r w Finset.univ hx hm) k) Q) := by
  subst hw
  have e : ((M.access r).loc (c : Thread nD τ) ↦[(M.access r).set]{fullShare} ((M.access r).write (Elt F) f ((M.access r).read (Elt F) g) Finset.univ) : sProp 𝕄)
      = ((M.access r).loc (c : Thread nD τ) ↦[(M.access r).set]{fullShare} g) := by
    apply pointsTo_congr
    exact write_read_on (M.access r) f g
  rw [← e]
  exact wp_store Variants.none (c : Thread nD τ) none Set.univ (m := M) (r := r) (Mk := Finset.univ) (le_of_eq (View.setOn_univ _))

/-- A load whose value is known. -/
theorem wp_load_val (c : Dev nD) {cs : CoreSpace} {s : Shape} {e : EltTy} {M : Memref sig .tc cs s e} {r : Rect s} {hl : M.view.LoadsAt r.toLoadRect}
    {α : Type} {Q : α → sProp 𝕄} {k : (r.shape.Idx → Elt F e) → Prog (TpuEff nD τ sig (Elt F) Λ₀ .tc) α}
    {S : Finset (Idx ((M.access r).loc (c : Thread nD τ)))} {f : Buf (Elt F) ((M.access r).loc (c : Thread nD τ))} {v : r.shape.Idx → Elt F e}
    (hv : (M.access r).read (Elt F) f = v) (hS : (M.access r).set ⊆ S) :
    ((M.access r).loc (c : Thread nD τ) ↦[S]{fullShare} f)
      ⊢ iprop((((M.access r).loc (c : Thread nD τ) ↦[S]{fullShare} f)
            -∗ wp frame (wpE (defs₀ (F := F)) Variants.none (c : Thread nD τ) none) Set.univ (k v) Q)
        -∗ wp frame (wpE (defs₀ (F := F)) Variants.none (c : Thread nD τ) none) Set.univ (.op (.load M r.toLoadRect hl) k) Q) := by
  subst hv
  exact wp_load_rect Variants.none (c : Thread nD τ) none Set.univ (m := M) (r := r) hS

section Steps

variable (c : Dev nD)

/-- What a device's program needs to end with `Q`. -/
abbrev wpc {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A load of a chunk of the gathered tokens; -/
theorem xg_load (j : Dev nD) {off : Fin 2 → Nat} (hoff : off = ![128 * j.val, 0]) {inb : ∀ a, off a + S128x512.size a ≤ S512x512.size a}
    {α : Type} {Q : α → sProp 𝕄} {hl} {k : (S128x512.Idx → Elt F .f32) → Prog (TpuEff nD τ sig (Elt F) Λ₀ .tc) α} (f : S512x512.Idx → Elt F .f32) :
    xgPts c j f ⊢ iprop((xgPts c j f -∗ wpc c (k ((xgM.access (chunkR j)).read (Elt F) f)) Q)
      -∗ wpc c (.op (.load xgM (Rect.unit (s := S512x512) off S128x512.size inb).toLoadRect hl) k) Q) := by
  subst hoff; unfold xgPts
  exact wp_load_rect Variants.none (c : Thread nD τ) none Set.univ (m := xgM) (r := chunkR j) (le_of_eq (View.set_slice_whole cc0_scratch0 (chunkR j)))
/-- and a store of its final contents. -/
theorem xg_store (j : Dev nD) {off : Fin 2 → Nat} (hoff : off = ![128 * j.val, 0]) {inb : ∀ a, off a + S128x512.size a ≤ S512x512.size a}
    {w : S128x512.Idx → Elt F .f32} {α : Type} {Q : α → sProp 𝕄} {hx hm} {k : PUnit → Prog (TpuEff nD τ sig (Elt F) Λ₀ .tc) α} (f g : S512x512.Idx → Elt F .f32)
    (hw : w = (xgM.access (chunkR j)).read (Elt F) g) :
    xgPts c j f ⊢ iprop((xgPts c j g -∗ wpc c (k ⟨⟩) Q)
      -∗ wpc c (.op (.store xgM (Rect.unit (s := S512x512) off S128x512.size inb) w Finset.univ hx hm) k) Q) := by
  subst hoff; unfold xgPts
  rw [← View.set_slice_whole cc0_scratch0 (chunkR j)]
  exact wp_store_piece c (M := xgM) (r := chunkR j) f g hw
/-- A load of a slot of the gathered router columns; -/
theorem rg_load (j : Dev nD) {off : Fin 3 → Nat} (hoff : off = ![j.val, 0, 0]) {inb : ∀ a, off a + S1x512x2.size a ≤ S4x512x2.size a}
    {α : Type} {Q : α → sProp 𝕄} {hl} {k : (S1x512x2.Idx → Elt F .f32) → Prog (TpuEff nD τ sig (Elt F) Λ₀ .tc) α} (f : S4x512x2.Idx → Elt F .f32) :
    rgPts c j f ⊢ iprop((rgPts c j f -∗ wpc c (k ((rgM.access (colR j)).read (Elt F) f)) Q)
      -∗ wpc c (.op (.load rgM (Rect.unit (s := S4x512x2) off S1x512x2.size inb).toLoadRect hl) k) Q) := by
  subst hoff; unfold rgPts
  exact wp_load_rect Variants.none (c : Thread nD τ) none Set.univ (m := rgM) (r := colR j) (le_of_eq (View.set_slice_whole cc0_scratch1 (colR j)))
/-- and a store of its final contents. -/
theorem rg_store (j : Dev nD) {off : Fin 3 → Nat} (hoff : off = ![j.val, 0, 0]) {inb : ∀ a, off a + S1x512x2.size a ≤ S4x512x2.size a}
    {w : S1x512x2.Idx → Elt F .f32} {α : Type} {Q : α → sProp 𝕄} {hx hm} {k : PUnit → Prog (TpuEff nD τ sig (Elt F) Λ₀ .tc) α} (f g : S4x512x2.Idx → Elt F .f32)
    (hw : w = (rgM.access (colR j)).read (Elt F) g) :
    rgPts c j f ⊢ iprop((rgPts c j g -∗ wpc c (k ⟨⟩) Q)
      -∗ wpc c (.op (.store rgM (Rect.unit (s := S4x512x2) off S1x512x2.size inb) w Finset.univ hx hm) k) Q) := by
  subst hoff; unfold rgPts
  rw [← View.set_slice_whole cc0_scratch1 (colR j)]
  exact wp_store_piece c (M := rgM) (r := colR j) f g hw
/-- A load of a slot of the outgoing partial sums; -/
theorem st_load (s : Fin 3) {off : Fin 3 → Nat} (hoff : off = ![s.val, 0, 0]) {inb : ∀ a, off a + S1x128x512.size a ≤ S3x128x512.size a}
    {α : Type} {Q : α → sProp 𝕄} {hl} {k : (S1x128x512.Idx → Elt F .f32) → Prog (TpuEff nD τ sig (Elt F) Λ₀ .tc) α} (f : S3x128x512.Idx → Elt F .f32) :
    stPts c s f ⊢ iprop((stPts c s f -∗ wpc c (k ((stM.access (slotR s)).read (Elt F) f)) Q)
      -∗ wpc c (.op (.load stM (Rect.unit (s := S3x128x512) off S1x128x512.size inb).toLoadRect hl) k) Q) := by
  subst hoff; unfold stPts
  exact wp_load_rect Variants.none (c : Thread nD τ) none Set.univ (m := stM) (r := slotR s) (le_of_eq (View.set_slice_whole cc0_scratch3 (slotR s)))
/-- a store of its final contents; -/
theorem st_store (s : Fin 3) {off : Fin 3 → Nat} (hoff : off = ![s.val, 0, 0]) {inb : ∀ a, off a + S1x128x512.size a ≤ S3x128x512.size a}
    {w : S1x128x512.Idx → Elt F .f32} {α : Type} {Q : α → sProp 𝕄} {hx hm} {k : PUnit → Prog (TpuEff nD τ sig (Elt F) Λ₀ .tc) α} (f g : S3x128x512.Idx → Elt F .f32)
    (hw : w = (stM.access (slotR s)).read (Elt F) g) :
    stPts c s f ⊢ iprop((stPts c s g -∗ wpc c (k ⟨⟩) Q)
      -∗ wpc c (.op (.store stM (Rect.unit (s := S3x128x512) off S1x128x512.size inb) w Finset.univ hx hm) k) Q) := by
  subst hoff; unfold stPts
  rw [← View.set_slice_whole cc0_scratch3 (slotR s)]
  exact wp_store_piece c (M := stM) (r := slotR s) f g hw
/-- and a load of a slot of the incoming ones, which holds what the right neighbour sent. -/
theorem rv_load (d : Dev nD) (s : Fin 3) {off : Fin 3 → Nat} (hoff : off = ![s.val, 0, 0]) {inb : ∀ a, off a + S1x128x512.size a ≤ S3x128x512.size a}
    {α : Type} {Q : α → sProp 𝕄} {hl} {k : (S1x128x512.Idx → Elt F .f32) → Prog (TpuEff nD τ sig (Elt F) Λ₀ .tc) α} :
    rvPts c s (stAll m d) ⊢ iprop((rvPts c s (stAll m d) -∗ wpc c (k (stSlot m d s)) Q)
      -∗ wpc c (.op (.load rvM (Rect.unit (s := S3x128x512) off S1x128x512.size inb).toLoadRect hl) k) Q) := by
  subst hoff; unfold rvPts
  exact wp_load_val c (M := rvM) (r := slotR s) (read_rv m d s) (le_of_eq (View.set_slice_whole cc0_scratch4 (slotR s)))
/-- A load of a chunk of the partial sums. -/
theorem pr_load (j : Dev nD) {off : Fin 2 → Nat} (hoff : off = ![128 * j.val, 0]) {inb : ∀ a, off a + S128x512.size a ≤ S512x512.size a}
    {α : Type} {Q : α → sProp 𝕄} {hl} {k : (S128x512.Idx → Elt F .f32) → Prog (TpuEff nD τ sig (Elt F) Λ₀ .tc) α} :
    (((c : Thread nD τ).loc cc0_scratch2) ↦{fullShare} prAll m c)
      ⊢ iprop(((((c : Thread nD τ).loc cc0_scratch2) ↦{fullShare} prAll m c) -∗ wpc c (k (prChunk m c j)) Q)
      -∗ wpc c (.op (.load prM (Rect.unit (s := S512x512) off S128x512.size inb).toLoadRect hl) k) Q) := by
  subst hoff
  exact wp_load_val c (M := prM) (r := chunkR j) (read_pr m c j) (Finset.subset_univ _)
/-- Loads of a member of the two pairs of weights. -/
theorem a_load (s : Fin 2) {off : Fin 3 → Nat} (hoff : off = ![s.val, 0, 0]) {inb : ∀ a, off a + S1x512x1024.size a ≤ S2x512x1024.size a}
    {α : Type} {Q : α → sProp 𝕄} {hl} {k : (S1x512x1024.Idx → Elt F .f32) → Prog (TpuEff nD τ sig (Elt F) Λ₀ .tc) α} :
    (((c : Thread nD τ).loc cc0_stg2_0) ↦{fullShare} astg m c)
      ⊢ iprop(((((c : Thread nD τ).loc cc0_stg2_0) ↦{fullShare} astg m c) -∗ wpc c (k (asl m c s)) Q)
      -∗ wpc c (.op (.load aM (Rect.unit (s := S2x512x1024) off S1x512x1024.size inb).toLoadRect hl) k) Q) := by
  subst hoff
  exact wp_load_val c (M := aM) (r := Rect.unit (s := S2x512x1024) ![s.val, 0, 0] S1x512x1024.size (slot2_inb s)) (f := astg m c) (v := asl m c s) (read_a m c s) (Finset.subset_univ _)
theorem b_load (s : Fin 2) {off : Fin 3 → Nat} (hoff : off = ![s.val, 0, 0]) {inb : ∀ a, off a + S1x1024x512.size a ≤ S2x1024x512.size a}
    {α : Type} {Q : α → sProp 𝕄} {hl} {k : (S1x1024x512.Idx → Elt F .f32) → Prog (TpuEff nD τ sig (Elt F) Λ₀ .tc) α} :
    (((c : Thread nD τ).loc cc0_stg3_0) ↦{fullShare} bstg m c)
      ⊢ iprop(((((c : Thread nD τ).loc cc0_stg3_0) ↦{fullShare} bstg m c) -∗ wpc c (k (bsl m c s)) Q)
      -∗ wpc c (.op (.load bM (Rect.unit (s := S2x1024x512) off S1x1024x512.size inb).toLoadRect hl) k) Q) := by
  subst hoff
  exact wp_load_val c (M := bM) (r := Rect.unit (s := S2x1024x512) ![s.val, 0, 0] S1x1024x512.size (slot2b_inb s)) (f := bstg m c) (v := bsl m c s) (read_b m c s) (Finset.subset_univ _)

end Steps

end Cert.KernelIdeal.Moe

end
-- ==== Proof.Steps.lean ====
/-
  The steps of the protocol: what a device holds of a transfer before, during and after it, and the rules of the
  three effects of a transfer - the issue, the wait at the sender, the wait at the receiver - in those terms.
-/
module

public import proofs.«01_k».proof.Proof.Pieces

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The resources of a device -/

/-- The invariants of every cell, and that its first round is open. -/
def records (K : Dev nD × C → ℕ) : sProp 𝕄 :=
  iprop((bigSep Finset.univ fun ck : Dev nD × C => cellInv ER (rd m) (K ck) (kcell ck))
    ∗ bigSep Finset.univ fun ck : Dev nD × C => reached ER (kcell ck) 0)

instance records_persistent (K : Dev nD × C → ℕ) : BI.Persistent (records m K) := by unfold records; infer_instance

theorem inv_at (K : Dev nD × C → ℕ) (ck : Dev nD × C) : records m K ⊢ cellInv ER (rd m) (K ck) (kcell ck) := by
  unfold records
  iintro ⟨H, -⟩
  iapply (show (bigSep Finset.univ fun ck : Dev nD × C => (cellInv ER (rd m) (K ck) (kcell ck) : sProp 𝕄)) ⊢ _ from bigSep_elim (Finset.mem_univ ck))
  iexact H
theorem reached_at (K : Dev nD × C → ℕ) (ck : Dev nD × C) : records m K ⊢ reached ER (kcell ck) 0 := by
  unfold records
  iintro ⟨-, H⟩
  iapply (show (bigSep Finset.univ fun ck : Dev nD × C => (reached ER (kcell ck) 0 : sProp 𝕄)) ⊢ _ from bigSep_elim (Finset.mem_univ ck))
  iexact H

/-- What device `c` owes when the transfers `l` are still to be issued. -/
def ow (c : Dev nD) (l : List (Fin 9)) : sProp 𝕄 := iprop(∃ W, owes (c : Thread nD τ) (Ow c l) W)

/-- What device `c` holds of transfer `i` at launch: its positions in the two cells of its own, the rights to pay
    the two duties, the units its own receive cell is to get. -/
def kit (c : Dev nD) (i : Fin 9) : sProp 𝕄 :=
  iprop(atPos ER (sendCell c i) 0 ∅ 0 ∗ atPos ER (recvCell c i) 0 ∅ 0 ∗ dutyTok ER (sendCell c i) 0 false
    ∗ dutyTok ER (recvCell (dst i c) i) 0 false ∗ cred (tallyAt (recvCell c i) () (amt i)))
/-- What is left of it for the wait at the sender, -/
def kitS (c : Dev nD) (i : Fin 9) : sProp 𝕄 := iprop(atPos ER (sendCell c i) 0 ∅ 0 ∗ cred (tallyAt (sendCell c i) () (amt i)))
/-- and for the wait at the receiver. -/
def kitR (c : Dev nD) (i : Fin 9) : sProp 𝕄 := iprop(atPos ER (recvCell c i) 0 ∅ 0 ∗ cred (tallyAt (recvCell c i) () (amt i)))

section Steps

variable (K : Dev nD × C → ℕ) (c : Dev nD)

/-- Issuing transfer `i`. -/
theorem send_step {α : Type} {Q : α → sProp 𝕄} (n : Dev nD) (i : Fin 9) (l : List (Fin 9)) (hn : n = dst i c) {sS sR : DmaSem sig} (hS : sS = sendNum i) (hR : sR = recvNum i)
    {s : Shape} {e : EltTy} {sm dm : Memref sig .tc .vmem s e} {hsc : dm.view.ref.isScScratch = false} {hsrc : sm.view.WordExact} {hdst : dm.view.WordExact}
    {hsem : DmaTarget.Typed .vmem (.dma sR) (.remote (Dev.tc n : Thread nD τ) dm (.dma sS) hsc)}
    {k : PUnit → Prog (TpuEff nD τ sig (Elt F) Λ₀ .tc) α}
    (hN : dm.view.amount (.dma sR) = amt i)
    (fs : Buf (Elt F) (sm.view.loc (c : Thread nD τ))) (fd : Buf (Elt F) (dm.view.loc (n : Thread nD τ)))
    (hp1 : (sm.view.loc (c : Thread nD τ) ↦[sm.view.set]{fullShare} fs : sProp 𝕄) ⊢ sendPay m c i)
    (hp2 : (dm.view.loc (n : Thread nD τ) ↦[dm.view.set]{fullShare} (dm.view.write (Elt F) fd (sm.view.read (Elt F) fs) Finset.univ) : sProp 𝕄) ⊢ recvPay m n i) :
    iprop(records m K ∗ (sm.view.loc (c : Thread nD τ) ↦[sm.view.set]{fullShare} fs) ∗ (dm.view.loc (n : Thread nD τ) ↦[dm.view.set]{fullShare} fd)
        ∗ ow c (i :: l) ∗ kit c i)
      ⊢ iprop(((ow c l ∗ kitS c i ∗ kitR c i) -∗ wpc c (k ⟨⟩) Q)
          -∗ wpc c (.op (.enqueueDma sm (.remote (Dev.tc n : Thread nD τ) dm (.dma sS) hsc) (.dma sR) hsrc hdst hsem) k) Q) := by
  subst hn hS hR
  unfold ow kit kitS kitR
  iintro ⟨#HR, Hs, Hd, ⟨%W, HO⟩, HaS, HaR, HtS, HtR, Hcr⟩ Hk
  iapply (Rounds.wp_send_pointsTo Variants.none ER (rd m) (c : Thread nD τ) none (κ₁ := K (c, .inr (.inl i))) (κ₂ := K (dst i c, .inr (.inr i)))
    (c' := (dst i c : Thread nD τ)) (src := sm) (dst := dm) (sS := .dma (sendNum i)) (sem := .dma (recvNum i))
    (r₁ := 0) (r₂ := 0) (d₁ := false) (d₂ := false) (fs := fs) (fd := fd) (q := fullShare) (W := W)
    (by rw [duties_send]; exact Finset.mem_singleton_self _) (by rw [duties_recv]; exact Finset.mem_singleton_self _)
    () () (amt i) hN (amount_send m c i false) (amount_recv m (dst i c) i false) (Ow c l) rfl
    (by rw [payload_send]; exact hp1) (by rw [payload_recv]; exact hp2)) $$ [Hs Hd HO HtS HtR]
  · isplitr; · iapply (inv_at m K (c, .inr (.inl i))); iexact HR
    isplitr; · iapply (inv_at m K (dst i c, .inr (.inr i))); iexact HR
    isplitl [Hs]; · iexact Hs
    isplitl [Hd]; · iexact Hd
    isplitl [HO]; · iexact HO
    isplitl [HtS]; · iexact HtS
    isplitr; · iapply (reached_at m K (c, .inr (.inl i))); iexact HR
    isplitl [HtR]; · iexact HtR
    iapply (reached_at m K (dst i c, .inr (.inr i))); iexact HR
  iintro ⟨Hc, HO⟩
  iapply Hk
  isplitl [HO]; · iexists W; iexact HO
  isplitl [HaS Hc]
  · isplitl [HaS]; · iexact HaS
    iexact Hc
  isplitl [HaR]; · iexact HaR
  iexact Hcr

/-- Waiting for transfer `i` at its sender: the piece it read is the device's again, and the cell closes. -/
theorem wait_send {α : Type} {Q : α → sProp 𝕄} (i : Fin 9) (l : List (Fin 9)) {sS : DmaSem sig} (hS : sS = sendNum i)
    {s s' : Shape} {e e' : EltTy} {sp : Space} {sm : Memref sig .tc sp s' e'} {dm : Memref sig .tc .vmem s e} {hsrc : sm.view.WordExact} {hdst : dm.view.WordExact}
    {k : PUnit → Prog (TpuEff nD τ sig (Elt F) Λ₀ .tc) α} (hN : dm.view.dmaCredit = amt i) :
    iprop(records m K ∗ levAts L lv ∗ ow c l ∗ kitS c i)
      ⊢ iprop(((ow c l ∗ semVal (sendCell c i) 0 ∗ sendPay m c i) -∗ wpc c (k ⟨⟩) Q)
          -∗ wpc c (.op (.waitDma2 sS sm dm hsrc hdst) k) Q) := by
  subst hS
  unfold ow kitS
  iintro ⟨#HR, #Hlev, ⟨%W, HO⟩, HaS, Hcr⟩ Hk
  ihave Hinv := (inv_at m K (c, .inr (.inl i))) $$ HR
  icases Hinv with #Hinv
  iapply (Rounds.wp_wait_rest_token Variants.none ER (rd m) (c : Thread nD τ) none (κ := K (c, .inr (.inl i)))
      (wpE_waitDma2_eq Variants.none (c : Thread nD τ) none Set.univ) (Set.mem_univ _) () (O := Ow c l) (W := W) (R := 0) (m := 0) (T := ∅)
      (by rw [Nat.zero_add, hN]; exact (expect_send m c i).symm)) $$ [Hcr HO HaS]
  · isplitr; · iexact Hinv
    isplitl [Hcr]; · rw [hN]; iexact Hcr
    isplitl [HO]; · iexact HO
    isplitr; · iapply (mayWait_Ow c _ l (fun j _ => by rw [lvS_send]; omega)); iexact Hlev
    iexact HaS
  iintro ⟨HO, HaS, -, Hpay⟩
  ihave Hpay := (Entails.of_eq (rest_send m c i)) $$ Hpay
  imod (Rounds.cell_close ER (rd m) (Set.mem_univ (K (c, .inr (.inl i)))) (fun h => h) (R := 0 + 1) (duties_later m (sendCell c i))) $$ [HaS] with Hz
  · isplitr; · iexact Hinv
    iexact HaS
  iapply Hk
  isplitl [HO]; · iexists _; iexact HO
  isplitl [Hz]; · iexact Hz
  iexact Hpay

/-- Waiting for transfer `i` at its receiver: the piece it wrote is the device's, and the cell closes. -/
theorem wait_recv {α : Type} {Q : α → sProp 𝕄} (i : Fin 9) (l : List (Fin 9)) (hl : ∀ j ∈ l, i < j) {sR : DmaSem sig} (hR : sR = recvNum i)
    {s s' : Shape} {e e' : EltTy} {sp : Space} {sm : Memref sig .tc sp s' e'} {dm : Memref sig .tc .vmem s e} {hsrc : sm.view.WordExact} {hdst : dm.view.WordExact}
    {k : PUnit → Prog (TpuEff nD τ sig (Elt F) Λ₀ .tc) α} (hN : dm.view.dmaCredit = amt i) :
    iprop(records m K ∗ levAts L lv ∗ ow c l ∗ kitR c i)
      ⊢ iprop(((ow c l ∗ semVal (recvCell c i) 0 ∗ recvPay m c i) -∗ wpc c (k ⟨⟩) Q)
          -∗ wpc c (.op (.waitDma2 sR sm dm hsrc hdst) k) Q) := by
  subst hR
  unfold ow kitR
  iintro ⟨#HR, #Hlev, ⟨%W, HO⟩, HaS, Hcr⟩ Hk
  ihave Hinv := (inv_at m K (c, .inr (.inr i))) $$ HR
  icases Hinv with #Hinv
  iapply (Rounds.wp_wait_rest_token Variants.none ER (rd m) (c : Thread nD τ) none (κ := K (c, .inr (.inr i)))
      (wpE_waitDma2_eq Variants.none (c : Thread nD τ) none Set.univ) (Set.mem_univ _) () (O := Ow c l) (W := W) (R := 0) (m := 0) (T := ∅)
      (by rw [Nat.zero_add, hN]; exact (expect_recv m c i).symm)) $$ [Hcr HO HaS]
  · isplitr; · iexact Hinv
    isplitl [Hcr]; · rw [hN]; iexact Hcr
    isplitl [HO]; · iexact HO
    isplitr; · iapply (mayWait_Ow c _ l (fun j hj => by rw [lvS_recv]; have := hl j hj; omega)); iexact Hlev
    iexact HaS
  iintro ⟨HO, HaS, -, Hpay⟩
  ihave Hpay := (Entails.of_eq (rest_recv m c i)) $$ Hpay
  imod (Rounds.cell_close ER (rd m) (Set.mem_univ (K (c, .inr (.inr i)))) (fun h => h) (R := 0 + 1) (duties_later m (recvCell c i))) $$ [HaS] with Hz
  · isplitr; · iexact Hinv
    iexact HaS
  iapply Hk
  isplitl [HO]; · iexists _; iexact HO
  isplitl [Hz]; · iexact Hz
  iexact Hpay

/-! ### The three kinds of transfer -/

theorem write_pts {ℓ : Loc nD τ sig} (I J : Finset (Idx ℓ)) (f g : Buf (Elt F) ℓ) (h : ∀ i ∈ I, f i = g i) (hI : I = J) :
    (ℓ ↦[I]{fullShare} f : sProp 𝕄) ⊢ (ℓ ↦[J]{fullShare} g) := by
  subst hI; exact Entails.of_eq (pointsTo_congr h)

/-- Issuing the transfer of token chunk `j` to the right neighbour. -/
theorem send_x {α : Type} {Q : α → sProp 𝕄} (n : Dev nD) (i : Fin 9) (l : List (Fin 9)) (j : Dev nD) (hn : n = dst i c) {sS sR : DmaSem sig} (hS : sS = sendNum i) (hR : sR = recvNum i)
    {off : Fin 2 → Nat} (hoff : off = ![128 * j.val, 0]) {inb : ∀ a, off a + S128x512.size a ≤ S512x512.size a} {hsc} {hsrc} {hdst}
    {hsem : DmaTarget.Typed .vmem (.dma sR) (.remote (Dev.tc n : Thread nD τ) (xgM.slice (Rect.unit (s := S512x512) off S128x512.size inb) (fun _ => rfl)) (.dma sS) hsc)}
    {k : PUnit → Prog (TpuEff nD τ sig (Elt F) Λ₀ .tc) α}
    (hN : amt i = NX) (hp1 : sendPay m c i = xgPts c j (xgAll m)) (hp2 : recvPay m (dst i c) i = xgPts (dst i c) j (xgAll m))
    (fd : S512x512.Idx → Elt F .f32) :
    iprop(records m K ∗ xgPts c j (xgAll m) ∗ xgPts (dst i c) j fd ∗ ow c (i :: l) ∗ kit c i)
      ⊢ iprop(((ow c l ∗ kitS c i ∗ kitR c i) -∗ wpc c (k ⟨⟩) Q)
          -∗ wpc c (.op (.enqueueDma (xgM.slice (Rect.unit (s := S512x512) off S128x512.size inb) (fun _ => rfl))
            (.remote (Dev.tc n : Thread nD τ) (xgM.slice (Rect.unit (s := S512x512) off S128x512.size inb) (fun _ => rfl)) (.dma sS) hsc) (.dma sR) hsrc hdst hsem) k) Q) := by
  subst hoff hn
  have hset : ((xgM.slice (chunkR j) (fun _ => rfl)).view.set : Finset _) = (chunkR j).set := View.set_slice_whole cc0_scratch0 (chunkR j)
  have h := send_step m K c (Q := Q) (k := k) (hsc := hsc) (hsrc := hsrc) (hdst := hdst) (hsem := hsem) _ i l rfl hS hR (sm := xgM.slice (chunkR j) (fun _ => rfl)) (dm := xgM.slice (chunkR j) (fun _ => rfl)) hN.symm (xgAll m) fd
    (by rw [hp1]; exact write_pts _ _ _ _ (fun _ _ => rfl) hset)
    (by rw [hp2]; exact write_pts _ _ _ _ (write_read_on (xgM.slice (chunkR j) (fun _ => rfl)).view fd (xgAll m)) hset)
  rw [hset] at h
  exact h

/-- Issuing the transfer of the router columns of slot `j` to the right neighbour. -/
theorem send_r {α : Type} {Q : α → sProp 𝕄} (n : Dev nD) (i : Fin 9) (l : List (Fin 9)) (j : Dev nD) (hn : n = dst i c) {sS sR : DmaSem sig} (hS : sS = sendNum i) (hR : sR = recvNum i)
    {off : Fin 3 → Nat} (hoff : off = ![j.val, 0, 0]) {inb : ∀ a, off a + S1x512x2.size a ≤ S4x512x2.size a} {hsc} {hsrc} {hdst}
    {hsem : DmaTarget.Typed .vmem (.dma sR) (.remote (Dev.tc n : Thread nD τ) (rgM.slice (Rect.unit (s := S4x512x2) off S1x512x2.size inb) (fun _ => rfl)) (.dma sS) hsc)}
    {k : PUnit → Prog (TpuEff nD τ sig (Elt F) Λ₀ .tc) α}
    (hN : amt i = NR) (hp1 : sendPay m c i = rgPts c j (rgAll m)) (hp2 : recvPay m (dst i c) i = rgPts (dst i c) j (rgAll m))
    (fd : S4x512x2.Idx → Elt F .f32) :
    iprop(records m K ∗ rgPts c j (rgAll m) ∗ rgPts (dst i c) j fd ∗ ow c (i :: l) ∗ kit c i)
      ⊢ iprop(((ow c l ∗ kitS c i ∗ kitR c i) -∗ wpc c (k ⟨⟩) Q)
          -∗ wpc c (.op (.enqueueDma (rgM.slice (Rect.unit (s := S4x512x2) off S1x512x2.size inb) (fun _ => rfl))
            (.remote (Dev.tc n : Thread nD τ) (rgM.slice (Rect.unit (s := S4x512x2) off S1x512x2.size inb) (fun _ => rfl)) (.dma sS) hsc) (.dma sR) hsrc hdst hsem) k) Q) := by
  subst hoff hn
  have hset : ((rgM.slice (colR j) (fun _ => rfl)).view.set : Finset _) = (colR j).set := View.set_slice_whole cc0_scratch1 (colR j)
  have h := send_step m K c (Q := Q) (k := k) (hsc := hsc) (hsrc := hsrc) (hdst := hdst) (hsem := hsem) _ i l rfl hS hR (sm := rgM.slice (colR j) (fun _ => rfl)) (dm := rgM.slice (colR j) (fun _ => rfl)) hN.symm (rgAll m) fd
    (by rw [hp1]; exact write_pts _ _ _ _ (fun _ _ => rfl) hset)
    (by rw [hp2]; exact write_pts _ _ _ _ (write_read_on (rgM.slice (colR j) (fun _ => rfl)).view fd (rgAll m)) hset)
  rw [hset] at h
  exact h

/-- Slot `s` of the outgoing partial sums as a transfer names it, -/
abbrev stV (s : Fin 3) {off : Fin 3 → Nat} (inb : ∀ a, off a + S1x128x512.size a ≤ S3x128x512.size a) : Memref sig .tc .vmem S128x512 .f32 :=
  (stM.slice (Rect.unit (s := S3x128x512) off S1x128x512.size inb) (fun _ => rfl)).squeeze S128x512 squeezes_S1x128x512_S128x512
/-- and of the incoming ones. -/
abbrev rvV (s : Fin 3) {off : Fin 3 → Nat} (inb : ∀ a, off a + S1x128x512.size a ≤ S3x128x512.size a) : Memref sig .tc .vmem S128x512 .f32 :=
  (rvM.slice (Rect.unit (s := S3x128x512) off S1x128x512.size inb) (fun _ => rfl)).squeeze S128x512 squeezes_S1x128x512_S128x512

/-- Issuing the transfer of the partial sums of slot `s` to the left neighbour. -/
theorem send_s {α : Type} {Q : α → sProp 𝕄} (n : Dev nD) (i : Fin 9) (l : List (Fin 9)) (s : Fin 3) (hn : n = dst i c) {sS sR : DmaSem sig} (hS : sS = sendNum i) (hR : sR = recvNum i)
    {off : Fin 3 → Nat} (hoff : off = ![s.val, 0, 0]) {inb : ∀ a, off a + S1x128x512.size a ≤ S3x128x512.size a} {hsc} {hsrc} {hdst}
    {hsem : DmaTarget.Typed .vmem (.dma sR) (.remote (Dev.tc n : Thread nD τ) (rvV s inb) (.dma sS) hsc)}
    {k : PUnit → Prog (TpuEff nD τ sig (Elt F) Λ₀ .tc) α}
    (hN : amt i = NX) (hp1 : sendPay m c i = stPts c s (stAll m c)) (hp2 : recvPay m (dst i c) i = rvPts (dst i c) s (stAll m c))
    (fd : S3x128x512.Idx → Elt F .f32) :
    iprop(records m K ∗ stPts c s (stAll m c) ∗ rvPts (dst i c) s fd ∗ ow c (i :: l) ∗ kit c i)
      ⊢ iprop(((ow c l ∗ kitS c i ∗ kitR c i) -∗ wpc c (k ⟨⟩) Q)
          -∗ wpc c (.op (.enqueueDma (stV s inb) (.remote (Dev.tc n : Thread nD τ) (rvV s inb) (.dma sS) hsc) (.dma sR) hsrc hdst hsem) k) Q) := by
  subst hoff hn
  have hsetS : ((stV s (slot_inb s)).view.set : Finset _) = (slotR s).set := (Memref.set_view_squeeze _ _).trans (View.set_slice_whole cc0_scratch3 (slotR s))
  have hsetR : ((rvV s (slot_inb s)).view.set : Finset _) = (slotR s).set := (Memref.set_view_squeeze _ _).trans (View.set_slice_whole cc0_scratch4 (slotR s))
  have h := send_step m K c (Q := Q) (k := k) (hsc := hsc) (hsrc := hsrc) (hdst := hdst) (hsem := hsem) _ i l rfl hS hR (sm := stV s (slot_inb s)) (dm := rvV s (slot_inb s)) hN.symm (stAll m c) fd
    (by rw [hp1]; exact write_pts _ _ _ _ (fun _ _ => rfl) hsetS)
    (by rw [hp2]; exact write_pts _ _ _ _ (write_read_on (rvV s (slot_inb s)).view fd (stAll m c)) hsetR)
  rw [hsetS, hsetR] at h
  exact h

end Steps

end Cert.KernelIdeal.Moe

end
-- ==== Proof.Body.lean ====
/-
  The body of the kernel, followed effect by effect: the handshake with the two neighbours, the gathering of tokens
  and router columns around the ring, the partial sums, their summation around the ring.
-/
module

public import proofs.«01_k».proof.Proof.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev s₀ : MemSt nD τ sig (Elt F) := { mem := m, sem := fun _ => 0, prng := ρ }

abbrev 𝒱₀ : Variants := Variants.none

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the handshake needs of device `c`. -/
def barKit (c : Dev nD) : sProp 𝕄 :=
  iprop(atPos ER (barCell c) 0 ∅ 0 ∗ dutyTok ER (barCell (pv c)) 0 false ∗ dutyTok ER (barCell (nx c)) 0 true ∗ cred (tallyAt (barCell c) () 2))

/-- What device `c`'s body starts from, beside its buffers. -/
def start (c : Dev nD) : sProp 𝕄 :=
  iprop(∃ K, records m K ∗ levAts L lv ∗ barKit c ∗ bigSep Finset.univ fun i : Fin 9 => kit c i)

/-- The five scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The counters of transfer `i`'s two cells at zero. -/
def zeros (c : Dev nD) (i : Fin 9) : sProp 𝕄 := iprop(semVal (sendCell c i) 0 ∗ semVal (recvCell c i) 0)

/-- Before the body, -/
def Φ₀ (c : Dev nD) : sProp 𝕄 := iprop(start m c ∗ scratch c)
/-- and after it: the scratch buffers and every counter at zero. -/
def Φ₁ (c : Dev nD) : sProp 𝕄 := iprop(scratch (F := F) c ∗ semVal (barCell c) 0 ∗ bigSep Finset.univ fun i : Fin 9 => zeros (F := F) c i)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => astg m c
    | ⟨3, _⟩ => bstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × C → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz2 : (![0, 0] : Fin 2 → Nat) = fun _ => 0 := funext fun a => by fin_cases a <;> rfl
theorem hz3 : (![0, 0, 0] : Fin 3 → Nat) = fun _ => 0 := funext fun a => by fin_cases a <;> rfl

def bodyPost (c : Dev nD) : sProp 𝕄 :=
  iprop(Φ₁ (F := F) c ∗ (dats m ρ 0 c).owesAt () t₀.succ ∗ stg c cc0_stg0_0 (xstg m c) ∗ stg c cc0_stg1_0 (rstg m c)
    ∗ stg c cc0_stg2_0 (astg m c) ∗ stg c cc0_stg3_0 (bstg m c) ∗ stg c cc0_stg4_0 (outAt m c))

/-- The transfers one by one. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- One unit to a neighbour's barrier, with what the handshake hands over. -/
theorem signal_step (c : Dev nD) {α : Type} {Q : α → sProp 𝕄} (n p : Dev nD) (hn : n = p) (d : Bool) (O : CellTallies nD τ sig Unit) (W : Waits sig Unit)
    {N : ℕ} (hN : N = 1) {k : PUnit → Prog (TpuEff nD τ sig (Elt F) Λ₀ .tc) α} :
    iprop(records m K ∗ owes (c : Thread nD τ) (O + tallyAt (barCell p) () 1) W ∗ dutyTok ER (barCell p) 0 d ∗ barPay p d)
      ⊢ iprop((owes (c : Thread nD τ) O W -∗ wpc c (k ⟨⟩) Q) -∗ wpc c (.op (.semSignal (Dev.tc n : Thread nD τ) barS N) k) Q) := by
  subst hn hN
  iintro ⟨#HR, HO, Ht, Hp⟩
  iapply (Rounds.wp_signal 𝒱₀ ER (rd m) (c : Thread nD τ) none (dst := (n : Thread nD τ)) (κ := K (n, .inl ()))
      (d := d) (by rw [duties_bar]; exact Finset.mem_univ _) (amount_bar m n d) () O rfl) $$ [HO Ht Hp]
  · isplitr; · iapply (inv_at m K (n, .inl ())); iexact HR
    isplitl [HO]; · iexact HO
    isplitl [Ht]; · iexact Ht
    isplitl [Hp]; · rw [payload_bar]; iexact Hp
    iapply (reached_at m K (n, .inl ())); iexact HR

/-- The wait for both neighbours' units. -/
theorem wait_bar (c : Dev nD) {α : Type} {Q : α → sProp 𝕄} {N : ℕ} (hN : N = 2) {k : PUnit → Prog (TpuEff nD τ sig (Elt F) Λ₀ .tc) α} :
    iprop(records m K ∗ levAts L lv ∗ ow c allT ∗ atPos ER (barCell c) 0 ∅ 0 ∗ cred (tallyAt (barCell c) () 2))
      ⊢ iprop(((ow c allT ∗ semVal (barCell c) 0 ∗ barPay c false ∗ barPay c true) -∗ wpc c (k ⟨⟩) Q)
          -∗ wpc c (.op (.semWait barS N) k) Q) := by
  subst hN
  unfold ow
  iintro ⟨#HR, #Hlev, ⟨%W, HO⟩, HaS, Hcr⟩ Hk
  ihave Hinv := (inv_at m K (c, .inl ())) $$ HR
  icases Hinv with #Hinv
  iapply (Rounds.wp_wait_rest_token 𝒱₀ ER (rd m) (c : Thread nD τ) none (κ := K (c, .inl ()))
      (wpE_semWait_eq 𝒱₀ (c : Thread nD τ) none Set.univ) (Set.mem_univ _) () (O := Ow c allT) (W := W) (R := 0) (m := 0) (T := ∅)
      (by rw [Nat.zero_add]; exact (expect_bar m c).symm)) $$ [Hcr HO HaS]
  · isplitr; · iexact Hinv
    isplitl [Hcr]; · iexact Hcr
    isplitl [HO]; · iexact HO
    isplitr; · iapply (mayWait_Ow c _ allT (fun j _ => by rw [lvS_bar]; omega)); iexact Hlev
    iexact HaS
  iintro ⟨HO, HaS, -, Hpay⟩
  ihave Hpay := (Entails.of_eq (rest_bar m c)) $$ Hpay
  imod (Rounds.cell_close ER (rd m) (Set.mem_univ (K (c, .inl ()))) (fun h => h) (R := 0 + 1) (duties_later m (barCell c))) $$ [HaS] with Hz
  · isplitr; · iexact Hinv
    iexact HaS
  iapply Hk
  isplitl [HO]; · iexists _; iexact HO
  isplitl [Hz]; · iexact Hz
  iexact Hpay

theorem barPay_true (c : Dev nD) : (barPay (F := F) c true : sProp 𝕄) = iprop(∃ f, rvPts (pv c) 0 f ∗ rvPts (pv c) 1 f ∗ rvPts (pv c) 2 f) := if_pos rfl
theorem barPay_false (c : Dev nD) : (barPay (F := F) c false : sProp 𝕄)
    = iprop((∃ f, xgPts (nx c) (ch c 0) f ∗ xgPts (nx c) (ch c 1) f ∗ xgPts (nx c) (ch c 2) f)
      ∗ ∃ f, rgPts (nx c) (ch c 0) f ∗ rgPts (nx c) (ch c 1) f ∗ rgPts (nx c) (ch c 2) f) := if_neg (by decide)

/-- The store of all partial sums, and that of the result: each fills its buffer. -/
theorem pr_store (c : Dev nD) {inb : ∀ a, (![0, 0] : Fin 2 → Nat) a + S512x512.size a ≤ S512x512.size a} {w : S512x512.Idx → Elt F .f32}
    (f g : S512x512.Idx → Elt F .f32) (hw : w = g)
    {α : Type} {Q : α → sProp 𝕄} {hx hm} {k : PUnit → Prog (TpuEff nD τ sig (Elt F) Λ₀ .tc) α} :
    ((((c : Thread nD τ).loc cc0_scratch2) ↦{fullShare} f : sProp 𝕄))
      ⊢ iprop(((((c : Thread nD τ).loc cc0_scratch2) ↦{fullShare} g) -∗ wpc c (k ⟨⟩) Q)
      -∗ wpc c (.op (.store prM (Rect.unit (s := S512x512) ![0, 0] S512x512.size inb) w Finset.univ hx hm) k) Q) := by
  subst hw
  have h := wp_store (defs := defs₀) (Γ := PendingWaitsCtx.empty) (Q := Q) (k := k) Variants.none (c : Thread nD τ) none Set.univ (m := prM) (r := Rect.unit (s := S512x512) ![0, 0] S512x512.size inb) (Mk := Finset.univ)
    (w := w) (f := f) (hx := hx) (hm := hm) (Finset.subset_univ _)
  rw [show ((prM : Memref sig .tc .vmem S512x512 .f32).access (Rect.unit (s := S512x512) ![0, 0] S512x512.size inb) : View sig .tc _ _ _).write (Elt F) f w Finset.univ = w
    from Memref.write_access_unit_zero_univ (Elt F) cc0_scratch2 hz2 _ f w] at h
  exact h
theorem out_store (c : Dev nD) {inb : ∀ a, (![0, 0] : Fin 2 → Nat) a + S128x512.size a ≤ S128x512.size a} {w : S128x512.Idx → Elt F .f32}
    (f g : S128x512.Idx → Elt F .f32) (hw : w = g)
    {α : Type} {Q : α → sProp 𝕄} {hx hm} {k : PUnit → Prog (TpuEff nD τ sig (Elt F) Λ₀ .tc) α} :
    ((((c : Thread nD τ).loc cc0_stg4_0) ↦{fullShare} f : sProp 𝕄))
      ⊢ iprop(((((c : Thread nD τ).loc cc0_stg4_0) ↦{fullShare} g) -∗ wpc c (k ⟨⟩) Q)
      -∗ wpc c (.op (.store oM (Rect.unit (s := S128x512) ![0, 0] S128x512.size inb) w Finset.univ hx hm) k) Q) := by
  subst hw
  have h := wp_store (defs := defs₀) (Γ := PendingWaitsCtx.empty) (Q := Q) (k := k) Variants.none (c : Thread nD τ) none Set.univ (m := oM) (r := Rect.unit (s := S128x512) ![0, 0] S128x512.size inb) (Mk := Finset.univ)
    (w := w) (f := f) (hx := hx) (hm := hm) (Finset.subset_univ _)
  rw [show ((oM : Memref sig .tc .vmem S128x512 .f32).access (Rect.unit (s := S128x512) ![0, 0] S128x512.size inb) : View sig .tc _ _ _).write (Elt F) f w Finset.univ = w
    from Memref.write_access_unit_zero_univ (Elt F) cc0_stg4_0 hz2 _ f w] at h
  exact h

/-- What device `c` is handed by a gathering transfer is what its left neighbour sent. -/
theorem recv_nx (c : Dev nD) (h : Fin 3) (f : S512x512.Idx → Elt F .f32) : (xgPts (nx c) (ch (pv (nx c)) h) f : sProp 𝕄) = xgPts (nx c) (ch c h) f := by rw [pv_nx]
theorem recv_nx_r (c : Dev nD) (h : Fin 3) (f : S4x512x2.Idx → Elt F .f32) : (rgPts (nx c) (ch (pv (nx c)) h) f : sProp 𝕄) = rgPts (nx c) (ch c h) f := by rw [pv_nx]
/-- And by a transfer of partial sums, what its right neighbour sent. -/
theorem recv_pv (c : Dev nD) (s : Fin 3) : (rvPts (pv c) s (stAll m (nx (pv c))) : sProp 𝕄) = rvPts (pv c) s (stAll m c) := by rw [nx_pv]

/-- What the body starts from. -/
def bodyPre (c : Dev nD) : sProp 𝕄 :=
  iprop(((records m K ∗ levAts L lv ∗ barKit c ∗ bigSep Finset.univ fun i : Fin 9 => kit c i) ∗ scratch c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxHeartbeats 4000000 in
set_option maxRecDepth 4000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) rM (Memref.isWhole_whole _) aM (Memref.isWhole_whole _) bM (Memref.isWhole_whole _) oM (Memref.isWhole_whole _)
            xgM (Memref.isWhole_whole _) rgM (Memref.isWhole_whole _) prM (Memref.isWhole_whole _) stM (Memref.isWhole_whole _) rvM (Memref.isWhole_whole _)
            cc0_scratch5 cc0_scratch6 cc0_scratch7 cc0_scratch8 cc0_scratch9 cc0_scratch10) Kt := by
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    cc0_body_skel, k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    semSignalWord, semWaitWord, Prog.lift, Prog.bind_op, Prog.bind_ret, Prog.pure_eq_ret, wp_deviceId]
  unfold bodyPre barKit scratch
  rw [bigSep_fin9]
  iintro ⟨⟨⟨⟨#HR, #Hlev, ⟨HaB, HtP, HtN, HcB⟩, Hk0, Hk1, Hk2, Hk3, Hk4, Hk5, Hk6, Hk7, Hk8⟩, ⟨%fx, Hxg⟩, ⟨%fr, Hrg⟩, ⟨%fp, Hpr⟩, ⟨%fs, Hst⟩, ⟨%fv, Hrv⟩⟩,
    Ho, ⟨%d0, %g0, %hg0, Hx⟩, ⟨%d1, %g1, %hg1, Hr⟩, ⟨%d2, %g2, %hg2, Ha⟩, ⟨%d3, %g3, %hg3, Hb⟩, ⟨%d4, %g4, %hg4, Hout⟩⟩, Hk⟩
  have e0 : g0 = xstg m c := by rw [hg0]; unfold Dat.before; rw [if_pos (fetch0_0 t₀)]; rfl
  have e1 : g1 = rstg m c := by rw [hg1]; unfold Dat.before; rw [if_pos (fetch0_1 t₀)]; rfl
  have e2 : g2 = astg m c := by rw [hg2]; unfold Dat.before; rw [if_pos (fetch0_2 t₀)]; rfl
  have e3 : g3 = bstg m c := by rw [hg3]; unfold Dat.before; rw [if_pos (fetch0_3 t₀)]; rfl
  subst e0 e1 e2 e3
  unfold Dat.owesAt Pipeline.owesWithin
  icases Ho with ⟨%W, %hW, HO⟩
  rw [show (dats m ρ 0 c).owed t₀.castSucc = O₀ c from rfl]
  -- the gathering buffers in four pieces, the incoming partial sums in three
  ihave Hxg := (Entails.of_eq ((xg_pieces c fx).trans (devs_before c _))) $$ Hxg
  icases Hxg with ⟨HX0, HXa, HXb, HXc⟩
  ihave Hrg := (Entails.of_eq ((rg_pieces c fr).trans (devs_before c _))) $$ Hrg
  icases Hrg with ⟨HR0, HRa, HRb, HRc⟩
  ihave Hrv := (Entails.of_eq (rv_pieces c fv)) $$ Hrv
  ihave Hst := (Entails.of_eq (st_pieces c fs)) $$ Hst
  icases Hst with ⟨Hs0, Hs1, Hs2⟩
  -- the handshake
  unfold O₀
  iapply (signal_step m K c _ (pv c) (dev1_eq c) false (O₁ c) W (by decide)) $$ [HO HtP HXa HXb HXc HRa HRb HRc]
  · isplitr; · iexact HR
    isplitl [HO]; · iexact HO
    isplitl [HtP]; · iexact HtP
    rw [barPay_false, nx_pv]
    isplitl [HXa HXb HXc]
    · iexists fx; isplitl [HXa]; · iexact HXa
      isplitl [HXb] <;> iassumption
    · iexists fr; isplitl [HRa]; · iexact HRa
      isplitl [HRb] <;> iassumption
  iintro HO
  unfold O₁
  iapply (signal_step m K c _ (nx c) (dev2_eq c) true (Ow c allT) W (by decide)) $$ [HO HtN Hrv]
  · isplitr; · iexact HR
    isplitl [HO]; · iexact HO
    isplitl [HtN]; · iexact HtN
    rw [barPay_true, pv_nx]
    iexists fv; iexact Hrv
  iintro HO
  iapply (wait_bar m K c (by decide)) $$ [HO HaB HcB]
  · isplitr; · iexact HR
    isplitr; · iexact Hlev
    isplitl [HO]; · unfold ow; iexists W; iexact HO
    isplitl [HaB] <;> iassumption
  iintro ⟨HO, HzB, HpF, HpT⟩
  ihave HpF := (Entails.of_eq (barPay_false c)) $$ HpF
  ihave HpT := (Entails.of_eq (barPay_true c)) $$ HpT
  icases HpF with ⟨⟨%gx, HN0, HN1, HN2⟩, ⟨%gr, HM0, HM1, HM2⟩⟩
  icases HpT with ⟨%gv, HV0, HV1, HV2⟩
  -- the own chunk and the own columns
  iapply (wp_load 𝒱₀ (c : Thread nD τ) none Set.univ (m := xM) (Finset.subset_univ _)) $$ Hx; iintro Hx
  rw [show (xM : Memref sig .tc .vmem S128x512 .f32).view.readAt (Elt F) (Rect.unit (s := S128x512) ![0, 0] S128x512.size inb_S128x512_S128x512_0_0).toLoadRect (xstg m c) = xstg m c
    from Memref.readAt_unit_zero (Elt F) cc0_stg0_0 hz2 _ _]
  iapply (xg_load c (ch c 0) (by rw [ch_self]; exact k0_off1_eq c) fx) $$ HX0; iintro HX0
  iapply (xg_store c (ch c 0) (by rw [ch_self]; exact k0_off1_eq c) fx (xgAll m) (by rw [ch_self]; exact (read_xg m c).symm)) $$ HX0; iintro HX0
  iapply (wp_load 𝒱₀ (c : Thread nD τ) none Set.univ (m := rM) (Finset.subset_univ _)) $$ Hr; iintro Hr
  rw [show (rM : Memref sig .tc .vmem S512x2 .f32).view.readAt (Elt F) (Rect.unit (s := S512x2) ![0, 0] S512x2.size inb_S512x2_S512x2_0_0).toLoadRect (rstg m c) = rstg m c
    from Memref.readAt_unit_zero (Elt F) cc0_stg1_0 hz2 _ _]
  iapply (rg_load c (ch c 0) (by rw [ch_self]; exact k0_off2_eq c) fr) $$ HR0; iintro HR0
  iapply (rg_store c (ch c 0) (by rw [ch_self]; exact k0_off2_eq c) fr (rgAll m) (by rw [ch_self]; exact (read_rg m c).symm)) $$ HR0; iintro HR0
  -- step 0 of the gathering
  iapply (send_x m K c _ 0 [1, 2, 3, 4, 5, 6, 7, 8] (ch c 0) (dev3_eq c) rfl rfl (off3_eq c 0) rfl rfl (recv_nx c 0 _) gx) $$ [HX0 HN0 HO Hk0]
  · isplitr; · iexact HR
    isplitl [HX0]; · iexact HX0
    isplitl [HN0]; · iexact HN0
    isplitl [HO] <;> iassumption
  iintro ⟨HO, HkS0, HkR0⟩
  iapply (send_r m K c _ 1 [2, 3, 4, 5, 6, 7, 8] (ch c 0) (dev4_eq c) rfl rfl (off4_eq c 0) rfl rfl (recv_nx_r c 0 _) gr) $$ [HR0 HM0 HO Hk1]
  · isplitr; · iexact HR
    isplitl [HR0]; · iexact HR0
    isplitl [HM0]; · iexact HM0
    isplitl [HO] <;> iassumption
  iintro ⟨HO, HkS1, HkR1⟩
  iapply (wait_send m K c 0 [2, 3, 4, 5, 6, 7, 8] rfl (by rfl)) $$ [HO HkS0]
  · isplitr; · iexact HR
    isplitr; · iexact Hlev
    isplitl [HO] <;> iassumption
  iintro ⟨HO, HzS0, HX0⟩
  iapply (wait_recv m K c 0 [2, 3, 4, 5, 6, 7, 8] (by decide) rfl (by rfl)) $$ [HO HkR0]
  · isplitr; · iexact HR
    isplitr; · iexact Hlev
    isplitl [HO] <;> iassumption
  iintro ⟨HO, HzR0, HX1⟩
  iapply (wait_send m K c 1 [2, 3, 4, 5, 6, 7, 8] rfl (by rfl)) $$ [HO HkS1]
  · isplitr; · iexact HR
    isplitr; · iexact Hlev
    isplitl [HO] <;> iassumption
  iintro ⟨HO, HzS1, HR0⟩
  iapply (wait_recv m K c 1 [2, 3, 4, 5, 6, 7, 8] (by decide) rfl (by rfl)) $$ [HO HkR1]
  · isplitr; · iexact HR
    isplitr; · iexact Hlev
    isplitl [HO] <;> iassumption
  iintro ⟨HO, HzR1, HR1⟩
  ihave HX1 := (Entails.of_eq (show (recvPay m c 0 : sProp 𝕄) = xgPts c (ch c 1) (xgAll m) from by
    show (xgPts c (ch (pv c) 0) (xgAll m) : sProp 𝕄) = _; rw [ch_pv0])) $$ HX1
  ihave HR1 := (Entails.of_eq (show (recvPay m c 1 : sProp 𝕄) = rgPts c (ch c 1) (rgAll m) from by
    show (rgPts c (ch (pv c) 0) (rgAll m) : sProp 𝕄) = _; rw [ch_pv0])) $$ HR1
  -- step 1 of the gathering
  iapply (send_x m K c _ 2 [3, 4, 5, 6, 7, 8] (ch c 1) (dev5_eq c) rfl rfl (off3_eq c 1) rfl rfl (recv_nx c 1 _) gx) $$ [HX1 HN1 HO Hk2]
  · isplitr; · iexact HR
    isplitl [HX1]; · iexact HX1
    isplitl [HN1]; · iexact HN1
    isplitl [HO] <;> iassumption
  iintro ⟨HO, HkS2, HkR2⟩
  iapply (send_r m K c _ 3 [4, 5, 6, 7, 8] (ch c 1) (dev6_eq c) rfl rfl (off4_eq c 1) rfl rfl (recv_nx_r c 1 _) gr) $$ [HR1 HM1 HO Hk3]
  · isplitr; · iexact HR
    isplitl [HR1]; · iexact HR1
    isplitl [HM1]; · iexact HM1
    isplitl [HO] <;> iassumption
  iintro ⟨HO, HkS3, HkR3⟩
  iapply (wait_send m K c 2 [4, 5, 6, 7, 8] rfl (by rfl)) $$ [HO HkS2]
  · isplitr; · iexact HR
    isplitr; · iexact Hlev
    isplitl [HO] <;> iassumption
  iintro ⟨HO, HzS2, HX1⟩
  iapply (wait_recv m K c 2 [4, 5, 6, 7, 8] (by decide) rfl (by rfl)) $$ [HO HkR2]
  · isplitr; · iexact HR
    isplitr; · iexact Hlev
    isplitl [HO] <;> iassumption
  iintro ⟨HO, HzR2, HX2⟩
  iapply (wait_send m K c 3 [4, 5, 6, 7, 8] rfl (by rfl)) $$ [HO HkS3]
  · isplitr; · iexact HR
    isplitr; · iexact Hlev
    isplitl [HO] <;> iassumption
  iintro ⟨HO, HzS3, HR1⟩
  iapply (wait_recv m K c 3 [4, 5, 6, 7, 8] (by decide) rfl (by rfl)) $$ [HO HkR3]
  · isplitr; · iexact HR
    isplitr; · iexact Hlev
    isplitl [HO] <;> iassumption
  iintro ⟨HO, HzR3, HR2⟩
  ihave HX2 := (Entails.of_eq (show (recvPay m c 2 : sProp 𝕄) = xgPts c (ch c 2) (xgAll m) from by
    show (xgPts c (ch (pv c) 1) (xgAll m) : sProp 𝕄) = _; rw [ch_pv1])) $$ HX2
  ihave HR2 := (Entails.of_eq (show (recvPay m c 3 : sProp 𝕄) = rgPts c (ch c 2) (rgAll m) from by
    show (rgPts c (ch (pv c) 1) (rgAll m) : sProp 𝕄) = _; rw [ch_pv1])) $$ HR2
  -- step 2 of the gathering
  iapply (send_x m K c _ 4 [5, 6, 7, 8] (ch c 2) (dev7_eq c) rfl rfl (off3_eq c 2) rfl rfl (recv_nx c 2 _) gx) $$ [HX2 HN2 HO Hk4]
  · isplitr; · iexact HR
    isplitl [HX2]; · iexact HX2
    isplitl [HN2]; · iexact HN2
    isplitl [HO] <;> iassumption
  iintro ⟨HO, HkS4, HkR4⟩
  iapply (send_r m K c _ 5 [6, 7, 8] (ch c 2) (dev8_eq c) rfl rfl (off4_eq c 2) rfl rfl (recv_nx_r c 2 _) gr) $$ [HR2 HM2 HO Hk5]
  · isplitr; · iexact HR
    isplitl [HR2]; · iexact HR2
    isplitl [HM2]; · iexact HM2
    isplitl [HO] <;> iassumption
  iintro ⟨HO, HkS5, HkR5⟩
  iapply (wait_send m K c 4 [6, 7, 8] rfl (by rfl)) $$ [HO HkS4]
  · isplitr; · iexact HR
    isplitr; · iexact Hlev
    isplitl [HO] <;> iassumption
  iintro ⟨HO, HzS4, HX2⟩
  iapply (wait_recv m K c 4 [6, 7, 8] (by decide) rfl (by rfl)) $$ [HO HkR4]
  · isplitr; · iexact HR
    isplitr; · iexact Hlev
    isplitl [HO] <;> iassumption
  iintro ⟨HO, HzR4, HX3⟩
  iapply (wait_send m K c 5 [6, 7, 8] rfl (by rfl)) $$ [HO HkS5]
  · isplitr; · iexact HR
    isplitr; · iexact Hlev
    isplitl [HO] <;> iassumption
  iintro ⟨HO, HzS5, HR2⟩
  iapply (wait_recv m K c 5 [6, 7, 8] (by decide) rfl (by rfl)) $$ [HO HkR5]
  · isplitr; · iexact HR
    isplitr; · iexact Hlev
    isplitl [HO] <;> iassumption
  iintro ⟨HO, HzR5, HR3⟩
  ihave HX0 := (Entails.of_eq (show (sendPay m c 0 : sProp 𝕄) = xgPts c (ch c 0) (xgAll m) from rfl)) $$ HX0
  ihave HR0 := (Entails.of_eq (show (sendPay m c 1 : sProp 𝕄) = rgPts c (ch c 0) (rgAll m) from rfl)) $$ HR0
  ihave HX1 := (Entails.of_eq (show (sendPay m c 2 : sProp 𝕄) = xgPts c (ch c 1) (xgAll m) from rfl)) $$ HX1
  ihave HR1 := (Entails.of_eq (show (sendPay m c 3 : sProp 𝕄) = rgPts c (ch c 1) (rgAll m) from rfl)) $$ HR1
  ihave HX2 := (Entails.of_eq (show (sendPay m c 4 : sProp 𝕄) = xgPts c (ch c 2) (xgAll m) from rfl)) $$ HX2
  ihave HR2 := (Entails.of_eq (show (sendPay m c 5 : sProp 𝕄) = rgPts c (ch c 2) (rgAll m) from rfl)) $$ HR2
  ihave HX3 := (Entails.of_eq (show (recvPay m c 4 : sProp 𝕄) = xgPts c (ch (pv c) 2) (xgAll m) from rfl)) $$ HX3
  ihave HR3 := (Entails.of_eq (show (recvPay m c 5 : sProp 𝕄) = rgPts c (ch (pv c) 2) (rgAll m) from rfl)) $$ HR3
  -- the gathered tokens and router columns whole
  ihave Hxg := (Entails.of_eq ((xg_pieces c (xgAll m)).trans (devs_after c _)).symm) $$ [HX0 HX1 HX2 HX3]
  · isplitl [HX0]; · iexact HX0
    isplitl [HX1]; · iexact HX1
    isplitl [HX2] <;> iassumption
  ihave Hrg := (Entails.of_eq ((rg_pieces c (rgAll m)).trans (devs_after c _)).symm) $$ [HR0 HR1 HR2 HR3]
  · isplitl [HR0]; · iexact HR0
    isplitl [HR1]; · iexact HR1
    isplitl [HR2] <;> iassumption
  iapply (wp_load 𝒱₀ (c : Thread nD τ) none Set.univ (m := xgM) (Finset.subset_univ _)) $$ Hxg; iintro Hxg
  rw [show (xgM : Memref sig .tc .vmem S512x512 .f32).view.readAt (Elt F) (Rect.unit (s := S512x512) ![0, 0] S512x512.size inb_S512x512_S512x512_0_0).toLoadRect (xgAll m) = xgAll m
    from Memref.readAt_unit_zero (Elt F) cc0_scratch0 hz2 _ _]
  iapply (wp_load 𝒱₀ (c : Thread nD τ) none Set.univ (m := rgM) (Finset.subset_univ _)) $$ Hrg; iintro Hrg
  rw [show (rgM : Memref sig .tc .vmem S4x512x2 .f32).view.readAt (Elt F) (Rect.unit (s := S4x512x2) ![0, 0, 0] S4x512x2.size inb_S4x512x2_S4x512x2_0_0_0).toLoadRect (rgAll m) = rgAll m
    from Memref.readAt_unit_zero (Elt F) cc0_scratch1 hz3 _ _]
  -- the two experts' weights, the partial sums
  iapply (a_load m c 0 rfl) $$ Ha; iintro Ha
  iapply (b_load m c 0 rfl) $$ Hb; iintro Hb
  iapply (a_load m c 1 rfl) $$ Ha; iintro Ha
  iapply (b_load m c 1 rfl) $$ Hb; iintro Hb
  iapply (wp_load 𝒱₀ (c : Thread nD τ) none Set.univ (m := prM) (Finset.subset_univ _)) $$ Hpr; iintro Hpr
  iapply (pr_store c fp (prAll m c) rfl) $$ Hpr; iintro Hpr
  -- step 0 of the summation
  iapply (pr_load m c (sh c (1 + 0)) (off5_eq c 0)) $$ Hpr; iintro Hpr
  iapply (st_load c 0 rfl fs) $$ Hs0; iintro Hs0
  iapply (st_store c 0 rfl fs (stAll m c) (read_st m c 0).symm) $$ Hs0; iintro Hs0
  iapply (send_s m K c _ 6 [7, 8] 0 (dev9_eq c) rfl rfl rfl rfl rfl (recv_pv m c 0) gv) $$ [Hs0 HV0 HO Hk6]
  · isplitr; · iexact HR
    isplitl [Hs0]; · iexact Hs0
    isplitl [HV0]; · iexact HV0
    isplitl [HO] <;> iassumption
  iintro ⟨HO, HkS6, HkR6⟩
  iapply (wait_send m K c 6 [7, 8] rfl (by rfl)) $$ [HO HkS6]
  · isplitr; · iexact HR
    isplitr; · iexact Hlev
    isplitl [HO] <;> iassumption
  iintro ⟨HO, HzS6, Hs0⟩
  iapply (wait_recv m K c 6 [7, 8] (by decide) rfl (by rfl)) $$ [HO HkR6]
  · isplitr; · iexact HR
    isplitr; · iexact Hlev
    isplitl [HO] <;> iassumption
  iintro ⟨HO, HzR6, Hv0⟩
  ihave Hs0 := (Entails.of_eq (show (sendPay m c 6 : sProp 𝕄) = stPts c 0 (stAll m c) from rfl)) $$ Hs0
  ihave Hv0 := (Entails.of_eq (show (recvPay m c 6 : sProp 𝕄) = rvPts c 0 (stAll m (nx c)) from rfl)) $$ Hv0
  -- step 1 of the summation
  iapply (pr_load m c (sh c (1 + 1)) (off5_eq c 1)) $$ Hpr; iintro Hpr
  iapply (rv_load m c (nx c) 0 rfl) $$ Hv0; iintro Hv0
  iapply (st_load c 1 rfl fs) $$ Hs1; iintro Hs1
  iapply (st_store c 1 rfl fs (stAll m c) (read_st m c 1).symm) $$ Hs1; iintro Hs1
  iapply (send_s m K c _ 7 [8] 1 (dev10_eq c) rfl rfl rfl rfl rfl (recv_pv m c 1) gv) $$ [Hs1 HV1 HO Hk7]
  · isplitr; · iexact HR
    isplitl [Hs1]; · iexact Hs1
    isplitl [HV1]; · iexact HV1
    isplitl [HO] <;> iassumption
  iintro ⟨HO, HkS7, HkR7⟩
  iapply (wait_send m K c 7 [8] rfl (by rfl)) $$ [HO HkS7]
  · isplitr; · iexact HR
    isplitr; · iexact Hlev
    isplitl [HO] <;> iassumption
  iintro ⟨HO, HzS7, Hs1⟩
  iapply (wait_recv m K c 7 [8] (by decide) rfl (by rfl)) $$ [HO HkR7]
  · isplitr; · iexact HR
    isplitr; · iexact Hlev
    isplitl [HO] <;> iassumption
  iintro ⟨HO, HzR7, Hv1⟩
  ihave Hs1 := (Entails.of_eq (show (sendPay m c 7 : sProp 𝕄) = stPts c 1 (stAll m c) from rfl)) $$ Hs1
  ihave Hv1 := (Entails.of_eq (show (recvPay m c 7 : sProp 𝕄) = rvPts c 1 (stAll m (nx c)) from rfl)) $$ Hv1
  -- step 2 of the summation
  iapply (pr_load m c (sh c (1 + 2)) (off5_eq c 2)) $$ Hpr; iintro Hpr
  iapply (rv_load m c (nx c) 1 rfl) $$ Hv1; iintro Hv1
  iapply (st_load c 2 rfl fs) $$ Hs2; iintro Hs2
  iapply (st_store c 2 rfl fs (stAll m c) (read_st m c 2).symm) $$ Hs2; iintro Hs2
  iapply (send_s m K c _ 8 [] 2 (dev11_eq c) rfl rfl rfl rfl rfl (recv_pv m c 2) gv) $$ [Hs2 HV2 HO Hk8]
  · isplitr; · iexact HR
    isplitl [Hs2]; · iexact Hs2
    isplitl [HV2]; · iexact HV2
    isplitl [HO] <;> iassumption
  iintro ⟨HO, HkS8, HkR8⟩
  iapply (wait_send m K c 8 [] rfl (by rfl)) $$ [HO HkS8]
  · isplitr; · iexact HR
    isplitr; · iexact Hlev
    isplitl [HO] <;> iassumption
  iintro ⟨HO, HzS8, Hs2⟩
  iapply (wait_recv m K c 8 [] (by decide) rfl (by rfl)) $$ [HO HkR8]
  · isplitr; · iexact HR
    isplitr; · iexact Hlev
    isplitl [HO] <;> iassumption
  iintro ⟨HO, HzR8, Hv2⟩
  ihave Hs2 := (Entails.of_eq (show (sendPay m c 8 : sProp 𝕄) = stPts c 2 (stAll m c) from rfl)) $$ Hs2
  ihave Hv2 := (Entails.of_eq (show (recvPay m c 8 : sProp 𝕄) = rvPts c 2 (stAll m (nx c)) from rfl)) $$ Hv2
  -- the own chunk's last partial sum, the result
  iapply (pr_load m c c (k0_off1_eq c)) $$ Hpr; iintro Hpr
  iapply (rv_load m c (nx c) 2 rfl) $$ Hv2; iintro Hv2
  iapply (wp_load 𝒱₀ (c : Thread nD τ) none Set.univ (m := oM) (Finset.subset_univ _)) $$ Hout; iintro Hout
  iapply (out_store c g4 (outAt m c) rfl) $$ Hout; iintro Hout
  unfold wpc; rw [wp_ret]
  imodintro
  iapply Hk
  unfold bodyPost Φ₁ scratch zeros Dat.owesAt Pipeline.owesWithin
  rw [show (dats m ρ 0 c).owed t₀.succ = 0 from rfl, bigSep_fin9]
  isplitl [Hxg Hrg Hpr Hs0 Hs1 Hs2 Hv0 Hv1 Hv2 HzB HzS0 HzS1 HzS2 HzS3 HzS4 HzS5 HzS6 HzS7 HzS8 HzR0 HzR1 HzR2 HzR3 HzR4 HzR5 HzR6 HzR7 HzR8]
  · isplitl [Hxg Hrg Hpr Hs0 Hs1 Hs2 Hv0 Hv1 Hv2]
    · isplitl [Hxg]; · iexists _; iexact Hxg
      isplitl [Hrg]; · iexists _; iexact Hrg
      isplitl [Hpr]; · iexists _; iexact Hpr
      isplitl [Hs0 Hs1 Hs2]
      · iexists (stAll m c)
        iapply (Entails.of_eq (st_pieces c (stAll m c)).symm)
        isplitl [Hs0]; · iexact Hs0
        isplitl [Hs1] <;> iassumption
      · iexists (stAll m (nx c))
        iapply (Entails.of_eq (rv_pieces c (stAll m (nx c))).symm)
        isplitl [Hv0]; · iexact Hv0
        isplitl [Hv1] <;> iassumption
    isplitl [HzB]; · iexact HzB
    isplitl [HzS0 HzR0]; · (isplitl [HzS0] <;> iassumption)
    isplitl [HzS1 HzR1]; · (isplitl [HzS1] <;> iassumption)
    isplitl [HzS2 HzR2]; · (isplitl [HzS2] <;> iassumption)
    isplitl [HzS3 HzR3]; · (isplitl [HzS3] <;> iassumption)
    isplitl [HzS4 HzR4]; · (isplitl [HzS4] <;> iassumption)
    isplitl [HzS5 HzR5]; · (isplitl [HzS5] <;> iassumption)
    isplitl [HzS6 HzR6]; · (isplitl [HzS6] <;> iassumption)
    isplitl [HzS7 HzR7]; · (isplitl [HzS7] <;> iassumption)
    isplitl [HzS8] <;> iassumption
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Ha]
  · iexists _; isplitr; · (ipureintro; rfl)
    iexact Ha
  isplitl [Hb]
  · iexists _; isplitr; · (ipureintro; rfl)
    iexact Hb
  iexists _; isplitr; · (ipureintro; rfl)
  iexact Hout

/-- The body obligation of the pipeline. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d))) ⊢ wp frame (wpE (defs₀ (F := F)) 𝒱₀ c none) Set.univ
      (cc0_body xM (Memref.isWhole_whole _) rM (Memref.isWhole_whole _) aM (Memref.isWhole_whole _) bM (Memref.isWhole_whole _) oM (Memref.isWhole_whole _)
            xgM (Memref.isWhole_whole _) rgM (Memref.isWhole_whole _) prM (Memref.isWhole_whole _) stM (Memref.isWhole_whole _) rvM (Memref.isWhole_whole _)
            cc0_scratch5 cc0_scratch6 cc0_scratch7 cc0_scratch8 cc0_scratch9 cc0_scratch10) (fun _ => bodyPost m ρ c)
  unfold Φ₀ start
  iintro ⟨⟨⟨%K, Hg⟩, Hscr⟩, Hrest⟩
  iapply (sound_body m ρ K c fun _ => bodyPost m ρ c)
  unfold bodyPre
  isplitr []
  · isplitl [Hg Hscr]
    · isplitl [Hg] <;> iassumption
    iexact Hrest
  · iintro H; iexact H

end Body

end Cert.KernelIdeal.Moe

end
-- ==== Proof.Launch.lean ====
/-
  The launch: what the four devices start from, how the tokens of the semaphore cells are dealt around the ring, the
  units each device may count on, and the run of the whole program.
-/
module

public import proofs.«01_k».proof.Proof.Body
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and their tokens -/

theorem ownSemFacts : Pipeline.OwnSemFacts cfg0.spec osem := by decide

theorem share_eq (c : Dev nD) (w : Fin cfg0.W) : (dats m ρ 0 c).share w = fullShare := by unfold Dat.share; split <;> rfl

/-- Every cell of every device. -/
def allCells : Finset (GSem nD τ sig) := Finset.univ.map ⟨kcell, kcell_injective⟩

/-- The duties of a device's own cells: two of its barrier, one of every transfer cell. -/
abbrev J : Type := Bool ⊕ (Fin 9 ⊕ Fin 9)
/-- The cell of a duty, -/
def jcell : J → C
  | .inl _ => .inl ()
  | .inr k => .inr k
/-- and which of the cell's duties it is. -/
def jduty : J → Bool
  | .inl b => b
  | .inr _ => false
theorem jpair_injective : Function.Injective fun j : J => (jcell j, jduty j) := by
  rintro (a | a) (b | b) h
  · exact congrArg Sum.inl (congrArg Prod.snd h)
  · exact absurd (congrArg Prod.fst h) (fun h => by cases h)
  · exact absurd (congrArg Prod.fst h) (fun h => by cases h)
  · exact congrArg Sum.inr (Sum.inr.inj (congrArg Prod.fst h))

def tokOf (cj : Dev nD × J) : GSem nD τ sig × ℕ × Bool := (kcell (cj.1, jcell cj.2), 0, jduty cj.2)
theorem tokOf_injective : Function.Injective tokOf := by
  rintro ⟨c, j⟩ ⟨c', j'⟩ h
  have h1 : (c, jcell j) = (c', jcell j') := kcell_injective (congrArg Prod.fst h)
  have h2 : jduty j = jduty j' := congrArg (fun x : GSem nD τ sig × ℕ × Bool => x.2.2) h
  have h3 : j = j' := jpair_injective (Prod.ext (congrArg Prod.snd h1) h2)
  exact Prod.ext (congrArg (fun x : Dev nD × C => x.1) h1) h3
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 false ∗ dutyTok ER (barCell c) 0 true)
    ∗ (bigSep Finset.univ fun i : Fin 9 => dutyTok ER (sendCell c i) 0 false) ∗ bigSep Finset.univ fun i : Fin 9 => dutyTok ER (recvCell c i) 0 false)

/-- What the launch deals device `c`. -/
def G (c : Dev nD) : sProp 𝕄 :=
  iprop((bigSep Finset.univ fun k : C => roundState ER (rd m) (kcell (c, k)) 0)
    ∗ (bigSep Finset.univ fun k : C => iprop(atPos ER (kcell (c, k)) 0 ∅ 0 ∗ reached ER (kcell (c, k)) 0)) ∗ toks c)

/-- The tokens of the duties device `c` pays. -/
def payToks (c : Dev nD) : sProp 𝕄 :=
  iprop((dutyTok ER (barCell (pv c)) 0 false ∗ dutyTok ER (barCell (nx c)) 0 true)
    ∗ (bigSep Finset.univ fun i : Fin 9 => dutyTok ER (sendCell c i) 0 false) ∗ bigSep Finset.univ fun i : Fin 9 => dutyTok ER (recvCell (dst i c) i) 0 false)
/-- What stays with device `c`: its positions, and the tokens of the duties it pays. -/
def linear (c : Dev nD) : sProp 𝕄 :=
  iprop((bigSep Finset.univ fun k : C => atPos ER (kcell (c, k)) 0 ∅ 0) ∗ payToks c)
/-- What the devices make of it together. -/
def G' (c : Dev nD) : sProp 𝕄 := iprop(∃ K, records m K ∗ linear c)

/-- A family over a device's cells. -/
theorem bigSep_C (Φ : C → sProp 𝕄) : bigSep Finset.univ Φ
    = iprop(Φ (.inl ()) ∗ (bigSep Finset.univ fun i : Fin 9 => Φ (.inr (.inl i))) ∗ bigSep Finset.univ fun i : Fin 9 => Φ (.inr (.inr i))) := by
  rw [BI.bigSep_univ_sum, BI.bigSep_univ_sum, bigSep_univ_of_subsingleton ()]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : C => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [BI.bigSep_univ_sum, BI.bigSep_univ_sum, bigSep_univ_eq_bigSepL [false, true] (by decide) (by decide), bigSepL_cons_cons, bigSepL_singleton]
      rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The transfers' semaphores are the kernel's own. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 9 => semVal (sendCell c i) 0) ∗ bigSep Finset.univ fun i : Fin 9 => semVal (recvCell c i) 0) := by
  unfold Pipeline.ownSems0; rw [BI.bigSep_univ_sum]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : C => semVal (kcell (c, k)) 0 : sProp 𝕄) := by
  rw [ownSems0_eq, unscopedSems0_eq, bigSep_C]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : C => iprop(∃ κ : ℕ, cellInv ER (rd m) κ (kcell (c, k))))
          ∗ (bigSep Finset.univ fun k : C => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : C => semVal (kcell (c, k)) 0) ∗ bigSep Finset.univ fun k : C => roundState ER (rd m) (kcell (c, k)) 0)
      ⊢ (|={Set.univ}=> bigSep Finset.univ fun k : C => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around the ring -/

/-- Transfer `i` of device `c` at its receiver, as a permutation. -/
def around : Dev nD × Fin 9 ≃ Dev nD × Fin 9 :=
  ⟨fun p => (dst p.2 p.1, p.2), fun p => (src p.2 p.1, p.2), fun p => Prod.ext (src_dst p.2 p.1) rfl, fun p => Prod.ext (dst_src p.2 p.1) rfl⟩

theorem recv_around (Φ : Dev nD → Fin 9 → sProp 𝕄) :
    (bigSep Finset.univ fun c : Dev nD => bigSep Finset.univ fun i : Fin 9 => Φ c i)
      = bigSep Finset.univ fun c : Dev nD => bigSep Finset.univ fun i : Fin 9 => Φ (dst i c) i := by
  rw [← bigSep_univ_prod (fun p : Dev nD × Fin 9 => Φ p.1 p.2), bigSep_univ_equiv around, ← bigSep_univ_prod (fun p : Dev nD × Fin 9 => Φ (dst p.2 p.1) p.2)]
  rfl

/-- A barrier's `false` token goes to the right neighbour, its `true` token to the left one, a receive token to the
    sender of the transfer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    recv_around (fun c i => (dutyTok ER (recvCell c i) 0 false : sProp 𝕄))]
  exact Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : C => iprop(∃ κ : ℕ, cellInv ER (rd m) κ (kcell (c, k))))
          ∗ (bigSep Finset.univ fun k : C => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × C => iprop(∃ κ : ℕ, cellInv ER (rd m) κ (kcell ck))),
    bigSep_congr (s := Finset.univ) (fun (c : Dev nD) _ => bigSep_sep' Finset.univ (fun k : C => (atPos ER (kcell (c, k)) 0 ∅ 0 : sProp 𝕄)) (fun k => reached ER (kcell (c, k)) 0)),
    bigSep_sep', ← bigSep_univ_prod (fun ck : Dev nD × C => (reached ER (kcell ck) 0 : sProp 𝕄))]
  iintro ⟨HI, ⟨Hat, #HR⟩, Htok⟩
  ihave HK := (BI.bigSep_exists_pi Finset.univ (fun (ck : Dev nD × C) (κ : ℕ) => (cellInv ER (rd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G'; iintro H; iexists K; iexact H)
  isplitr
  · unfold records; isplitl; · iexact HI
    iexact HR
  · iapply (Entails.of_eq (bigSep_sep' Finset.univ (fun c : Dev nD => bigSep Finset.univ fun k : C => (atPos ER (kcell (c, k)) 0 ∅ 0 : sProp 𝕄)) payToks).symm)
    isplitl [Hat]; · iexact Hat
    iexact Htk

/-- The step all devices take together before the bodies start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units a device may count on -/

theorem bar_eq_iff {a b : Dev nD} : barCell a = barCell b ↔ a = b :=
  ⟨fun h => congrArg (fun g : GSem nD τ sig => g.1.1) h, fun h => h ▸ rfl⟩
theorem recv_eq_iff {a b : Dev nD} {i j : Fin 9} : recvCell a i = recvCell b j ↔ a = b ∧ i = j :=
  ⟨fun h => by
    have h' : ((a, .inr (.inr i)) : Dev nD × C) = (b, .inr (.inr j)) := kcell_injective h
    exact ⟨congrArg Prod.fst h', Sum.inr.inj (Sum.inr.inj (congrArg Prod.snd h'))⟩, fun h => by rw [h.1, h.2]⟩
theorem recv_ne_bar' (a b : Dev nD) (i : Fin 9) : recvCell a i ≠ barCell b := fun h => by
  have h' : ((a, .inr (.inr i)) : Dev nD × C) = (b, .inl ()) := kcell_injective h
  exact absurd (congrArg Prod.snd h') (fun h => by cases h)

theorem Ow_bar (d c : Dev nD) (l : List (Fin 9)) : Ow d l (barCell c) () = 0 := by
  by_contra h
  obtain ⟨i, -, e⟩ := Ow_pos (Nat.pos_of_ne_zero h)
  exact recv_ne_bar' _ _ i e.symm
theorem Ow_recv (d c : Dev nD) (i : Fin 9) : ∀ l : List (Fin 9), l.Nodup → Ow d l (recvCell c i) () = if i ∈ l ∧ d = src i c then amt i else 0
  | [], _ => by rw [if_neg fun h => List.not_mem_nil h.1]; rfl
  | j :: l, hl => by
    have hj := (List.nodup_cons.mp hl).1
    unfold Ow
    rw [Pi.add_apply, Finsupp.add_apply, tallyAt_apply, Ow_recv d c i l (List.nodup_cons.mp hl).2]
    by_cases hij : i = j
    · subst hij
      rw [if_neg fun h => hj h.1, Nat.zero_add]
      by_cases hd : d = src i c
      · rw [if_pos ⟨by rw [hd, dst_src], rfl⟩, if_pos ⟨List.mem_cons_self, hd⟩]
      · rw [if_neg fun h => hd (by rw [(recv_eq_iff.mp h.1).1, src_dst]), if_neg fun h => hd h.2]
    · rw [if_neg fun (h : recvCell c i = recvCell (dst j d) j ∧ () = ()) => hij (recv_eq_iff.mp h.1).2, Nat.add_zero]
      exact if_congr (and_congr_left fun _ => ⟨List.mem_cons_of_mem _, fun h => (List.mem_cons.mp h).resolve_left hij⟩) rfl rfl

/-- What device `d` owes device `c`'s barrier: a unit if `c` is a neighbour. -/
theorem owed_bar (d c : Dev nD) : O₀ d (barCell c) () = (if d = pv c then 1 else 0) + (if d = nx c then 1 else 0) := by
  unfold O₀ O₁
  rw [Pi.add_apply, Finsupp.add_apply, Pi.add_apply, Finsupp.add_apply, Ow_bar, tallyAt_apply, tallyAt_apply, Nat.zero_add]
  congr 1
  · refine if_congr ⟨fun h => ?_, fun h => ?_⟩ rfl rfl
    · rw [bar_eq_iff.mp h.1, pv_nx]
    · rw [h, nx_pv]; exact ⟨rfl, rfl⟩
  · refine if_congr ⟨fun h => ?_, fun h => ?_⟩ rfl rfl
    · rw [bar_eq_iff.mp h.1, nx_pv]
    · rw [h, pv_nx]; exact ⟨rfl, rfl⟩

theorem mem_allT : ∀ i : Fin 9, i ∈ allT := by decide
theorem owed_recv (d c : Dev nD) (i : Fin 9) : O₀ d (recvCell c i) () = if d = src i c then amt i else 0 := by
  unfold O₀ O₁
  rw [Pi.add_apply, Finsupp.add_apply, Pi.add_apply, Finsupp.add_apply, Ow_recv d c i allT (by decide),
    tallyAt_ne_cell (recv_ne_bar' c _ i), tallyAt_ne_cell (recv_ne_bar' c _ i), Finsupp.zero_apply, Nat.add_zero, Nat.add_zero]
  exact if_congr ⟨fun h => h.2, fun h => ⟨mem_allT i, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pv c) fun _ => 1, Finset.sum_ite_eq' Finset.univ (nx c) fun _ => 1, if_pos (Finset.mem_univ _), if_pos (Finset.mem_univ _)]

theorem launch_recv (c : Dev nD) (i : Fin 9) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src i c) fun _ => amt i,
    if_pos (Finset.mem_univ _)]

/-- The semaphores of the receive cells. -/
def recvSems : Finset (SemLoc sig) := Finset.univ.map ⟨fun i : Fin 9 => csem (.inr (.inr i)), fun _ _ h => Sum.inr.inj (Sum.inr.inj (csem_injective h))⟩

theorem creds (c : Dev nD) :
    (Pipeline.launchCred O₀ c : sProp 𝕄) ⊢ iprop(cred (tallyAt (barCell c) () 2) ∗ bigSep Finset.univ fun i : Fin 9 => cred (tallyAt (recvCell c i) () (amt i))) := by
  unfold Pipeline.launchCred
  rw [bigSep_univ_at _ (SemLoc.reg barS), launch_bar]
  refine sep_mono_right ?_
  refine (BI.bigSep_subset (t := recvSems) ?_).trans ?_
  · intro sm h
    obtain ⟨i, -, rfl⟩ := Finset.mem_map.mp h
    exact Finset.mem_erase.mpr ⟨fun e => absurd (csem_injective (a₁ := .inr (.inr i)) (a₂ := .inl ()) e) (fun h => by cases h), Finset.mem_univ _⟩
  · unfold recvSems
    rw [bigSep_map]
    exact bigSep_mono fun i _ => Entails.of_eq (congrArg cred (launch_recv c i))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G' linear payToks barKit kit
  simp only [bigSep_sep', bigSep_C]
  icases HG with ⟨%K, HR, ⟨HaB, HaS, HaR⟩, ⟨HtF, HtT⟩, HtS, HtR⟩
  isplitl
  · iexists K
    isplitl [HR]; · iexact HR
    isplitl [Hlev]; · iexact Hlev
    isplitl [HaB HtF HtT H1]
    · isplitl [HaB]; · iexact HaB
      isplitl [HtF]; · iexact HtF
      isplitl [HtT] <;> iassumption
    isplitl [HaS]; · iexact HaS
    isplitl [HaR]; · iexact HaR
    isplitl [HtS]; · iexact HtS
    isplitl [HtR]; · iexact HtR
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  rw [bigSep_sep']
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four devices ends, every array holds its
    final contents and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 5) = (s₀ m ρ).mem (win0_0.arr.view.loc (c : Thread nD τ)) := (dats (F := F) m ρ 0 c).arrAt_in (0 : Fin 5) rfl _
theorem finalA_1 (c : Dev nD) : finalA m ρ c (1 : Fin 5) = (s₀ m ρ).mem (win0_1.arr.view.loc (c : Thread nD τ)) := (dats (F := F) m ρ 0 c).arrAt_in (1 : Fin 5) rfl _
theorem finalA_2 (c : Dev nD) : finalA m ρ c (2 : Fin 5) = (s₀ m ρ).mem (win0_2.arr.view.loc (c : Thread nD τ)) := (dats (F := F) m ρ 0 c).arrAt_in (2 : Fin 5) rfl _
theorem finalA_3 (c : Dev nD) : finalA m ρ c (3 : Fin 5) = (s₀ m ρ).mem (win0_3.arr.view.loc (c : Thread nD τ)) := (dats (F := F) m ρ 0 c).arrAt_in (3 : Fin 5) rfl _

end Cert.KernelIdeal.Moe

end
-- ==== Proof.Router.lean ====
/-
  The two greatest of eight extended reals, ties to the lower position: the facts both programs' routers come down
  to. One program takes two rounds of "the maximum, the least position that equals it, that position masked"; the
  other sorts the positions stably by the negated values and keeps the first two.
-/
module

public import Idealize.ShloMosaic.Lib.Pointwise
public import Idealize.ShloMosaic.Lib.SortPrefix

@[expose] public section

noncomputable section

namespace Cert.Router

open Idealize.ShloMosaic

/-- `i` is the first position of the greatest value and `j` the first of the greatest among the others. -/
structure Top2 (g : Fin 8 → EReal) (i j : Fin 8) : Prop where
  ne : j ≠ i
  le₁ : ∀ k, g k ≤ g i
  lt₁ : ∀ k, k < i → g k < g i
  le₂ : ∀ k, k ≠ i → g k ≤ g j
  lt₂ : ∀ k, k ≠ i → k < j → g k < g j

/-- The first position of the greatest value over a nonempty set of positions. -/
theorem exists_first (g : Fin 8 → EReal) (s : Finset (Fin 8)) (hs : s.Nonempty) :
    ∃ i ∈ s, (∀ k ∈ s, g k ≤ g i) ∧ ∀ k ∈ s, k < i → g k < g i := by
  obtain ⟨a, ha, hmax⟩ := Finset.exists_max_image s g hs
  have hne : (s.filter fun k => g k = g a).Nonempty := ⟨a, by simp [ha]⟩
  have hmem := Finset.min'_mem _ hne
  simp only [Finset.mem_filter] at hmem
  have hle : ∀ k ∈ s, g k ≤ g ((s.filter fun k => g k = g a).min' hne) := fun k hk => by rw [hmem.2]; exact hmax k hk
  refine ⟨_, hmem.1, hle, fun k hk hlt => ?_⟩
  refine lt_of_le_of_ne (hle k hk) fun e => ?_
  exact absurd (Finset.min'_le _ k (by simp [hk, e, hmem.2])) (not_le.mpr hlt)

theorem exists_top2 (g : Fin 8 → EReal) : ∃ i j, Top2 g i j := by
  obtain ⟨i, -, h₁, h₂⟩ := exists_first g Finset.univ ⟨0, Finset.mem_univ _⟩
  obtain ⟨j, hj, h₃, h₄⟩ := exists_first g (Finset.univ.erase i)
    (by rw [← Finset.card_pos, Finset.card_erase_of_mem (Finset.mem_univ _)]; decide)
  exact ⟨i, j, Finset.ne_of_mem_erase hj, fun k => h₁ k (Finset.mem_univ _), fun k => h₂ k (Finset.mem_univ _),
    fun k hk => h₃ k (Finset.mem_erase.mpr ⟨hk, Finset.mem_univ _⟩),
    fun k hk => h₄ k (Finset.mem_erase.mpr ⟨hk, Finset.mem_univ _⟩)⟩

/-! ## Folds -/

theorem fold_max_eq {n : Nat} (f : Fin n → EReal) (b : EReal) (i : Fin n) (hb : b ≤ f i) (h : ∀ k, f k ≤ f i) :
    Finset.fold max b f Finset.univ = f i :=
  le_antisymm (Finset.fold_max_le _ |>.mpr ⟨hb, fun k _ => h k⟩) (Finset.le_fold_max _ |>.mpr (Or.inr ⟨i, Finset.mem_univ _, le_rfl⟩))

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem fold_minsi_eq {n : Nat} (f : Fin n → BitVec 32) (b : BitVec 32) (i : Fin n) (hb : (f i).toInt ≤ b.toInt)
    (h : ∀ k, (f i).toInt ≤ (f k).toInt) : Finset.fold IntOp.minsi b f Finset.univ = f i := by
  apply BitVec.eq_of_toInt_eq
  rw [← Finset.fold_hom (op' := min) (m := BitVec.toInt) minsi_toInt]
  exact le_antisymm (Finset.fold_min_le _ |>.mpr (Or.inr ⟨i, Finset.mem_univ _, le_rfl⟩))
    (Finset.le_fold_min _ |>.mpr ⟨hb, fun k _ => h k⟩)

theorem toInt_pos (k : Fin 8) : (BitVec.ofNat 32 k.val).toInt = (k.val : ℤ) := by
  revert k; decide

/-- The least position with a property, as the fold of the positions' words with 8 standing for "not here". -/
theorem fold_first (p : Fin 8 → Prop) [DecidablePred p] (i : Fin 8) (hi : p i) (hlt : ∀ k, k < i → ¬ p k) :
    Finset.fold IntOp.minsi (2147483647#32) (fun x : Fin 8 => if p x then BitVec.ofNat 32 x.val else 8#32) Finset.univ
      = BitVec.ofNat 32 i.val := by
  have e : (if p i then BitVec.ofNat 32 i.val else 8#32) = BitVec.ofNat 32 i.val := if_pos hi
  refine (fold_minsi_eq _ _ i ?_ fun k => ?_).trans e
  · rw [e]; clear e hi hlt; revert i; decide
  · simp only [e]
    by_cases hk : p k
    · rw [if_pos hk, toInt_pos, toInt_pos]
      have : ¬ k < i := fun hl => hlt k hl hk
      exact_mod_cast not_lt.mp this
    · rw [if_neg hk, toInt_pos]
      have := i.isLt
      show (i.val : ℤ) ≤ 8
      omega

theorem sel_word {α : Type} (x i : Fin 8) (a b : α) :
    Scalar.select (IntOp.cmpi .eq (BitVec.ofNat 32 x.val) (BitVec.ofNat 32 i.val)) a b = if x = i then a else b := by
  by_cases h : x = i
  · subst h; simp [Scalar.select, IntOp.cmpi]
  · have : BitVec.ofNat 32 x.val ≠ BitVec.ofNat 32 i.val := fun e => h (Fin.ext (by
      have := congrArg BitVec.toInt e
      rw [toInt_pos, toInt_pos] at this
      exact_mod_cast this))
    have e : (BitVec.ofNat 32 x.val == BitVec.ofNat 32 i.val) = false := by rw [beq_eq_false_iff_ne]; exact this
    rw [if_neg h]
    unfold Scalar.select IntOp.cmpi
    rw [e]
    rfl

/-! ## The stable sort -/

/-- A stable sort of positions listed in order may break ties by position. -/
theorem stableSort_tie {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_tie {n : Nat} (R R' : Fin n → Fin n → Bool) (h : ∀ a b, a < b → R b a = R' b a) :
    sortedFrom R = sortedFrom R' := by
  funext k
  have e : sortPositions n R = sortPositions n R' := stableSort_tie R R' h _ (List.pairwise_lt_finRange n)
  unfold sortedFrom
  rw [List.get_of_eq e]
  rfl

/-- Sorted stably by the negated values, the first position is `i` and the second `j`. -/
theorem sortedFrom_top2 (g : Fin 8 → EReal) (i j : Fin 8) (h : Top2 g i j) (e : Fin 2) :
    sortedFrom (fun a b => decide (-g a < -g b)) (e.castLE (by decide)) = (![i, j] : Fin 2 → Fin 8) e := by
  have hB : StrictTotalBefore fun a b : Fin 8 =>
      decide (-g a < -g b) || (decide ((-g a) = (-g b)) && decide (a < b)) :=
    StrictTotalBefore.of_key_then_position (fun x y : EReal => decide (x < y)) (fun a => -g a) (by simp)
      (fun a b c => by simpa using lt_trans) (fun a b => by simpa using lt_trichotomy a b)
  rw [sortedFrom_tie _ (fun a b : Fin 8 => decide (-g a < -g b) || (decide ((-g a) = (-g b)) && decide (a < b)))
    (fun a b hab => by simp [not_lt.mpr hab.le])]
  have key : ∀ p q : Fin 8, g p ≤ g q → (p < q → g p < g q) → p ≠ q →
      (decide (-g p < -g q) || (decide ((-g p) = (-g q)) && decide (p < q))) = false := by
    intro p q hle hlt hne
    simp only [Bool.or_eq_false_iff, Bool.and_eq_false_iff, decide_eq_false_iff_not, EReal.neg_lt_neg_iff, not_lt, neg_inj]
    refine ⟨hle, ?_⟩
    by_cases hpq : p < q
    · exact Or.inl (hlt hpq).ne
    · exact Or.inr (not_lt.mp hpq)
  refine hB.sortedFrom_eq_of_prefix (by decide) (![i, j] : Fin 2 → Fin 8) ?_ ?_ ?_ e
  · intro a b hab
    fin_cases a <;> fin_cases b <;> simp_all [h.ne, h.ne.symm]
  · intro a b hab
    have : a = 0 ∧ b = 1 := by revert a b; decide
    obtain ⟨rfl, rfl⟩ := this
    exact key j i (h.le₁ j) (h.lt₁ j) h.ne
  · intro a p hp
    have hpi : p ≠ i := fun e => hp 0 e.symm
    have hpj : p ≠ j := fun e => hp 1 e.symm
    have : a = 0 ∨ a = 1 := by clear hp; revert a; decide
    rcases this with rfl | rfl
    · exact key p i (h.le₁ p) (h.lt₁ p) hpi
    · exact key p j (h.le₂ p hpi) (h.lt₂ p hpi) hpj

/-! ## The weights -/

/-- The first expert's weight, from the two gates. -/
def w₁ (a b : EReal) : EReal := Ideal.div 1 (1 + Ideal.exp (b - a))

/-- The second expert's weight. -/
def w₂ (a b : EReal) : EReal := Ideal.div (Ideal.exp (b - a)) (1 + Ideal.exp (b - a))

/-- The dense weight of expert `e`: the first expert's, the second's or zero. -/
def dense (g : Fin 8 → EReal) (i j e : Fin 8) : EReal :=
  (if e = i then w₁ (g i) (g j) else 0) + (if e = j then w₂ (g i) (g j) else 0)

theorem ofBits_ninf : Ideal.ofBits .f32 0xFF800000#32 = ⊥ := by
  simp [Ideal.ofBits, Ideal.ieee]

/-- The experts' results weighted densely: only the two chosen experts are left. -/
theorem sum_dense (g E : Fin 8 → EReal) (i j : Fin 8) (h : j ≠ i) :
    ∑ e, E e * dense g i j e = E i * w₁ (g i) (g j) + E j * w₂ (g i) (g j) := by
  have e₁ : ∀ e, E e * dense g i j e
      = (if e = i then E i * w₁ (g i) (g j) else 0) + (if e = j then E j * w₂ (g i) (g j) else 0) := fun e => by
    unfold dense
    by_cases hi : e = i
    · subst hi; simp [h.symm]
    · by_cases hj : e = j
      · subst hj; simp [h]
      · simp [hi, hj]
  simp only [e₁, Finset.sum_add_distrib, Finset.sum_ite_eq', Finset.mem_univ, if_true]

/-! ## What both programs compute -/

/-- The gate of token `t` for expert `e`. -/
def gate (X : (⟨2, ![512, 512]⟩ : Shape).Idx → EReal) (R : (⟨2, ![512, 8]⟩ : Shape).Idx → EReal) (t : Fin 512) (e : Fin 8) : EReal :=
  ∑ k : Fin 512, X (ix2 t k) * R (ix2 k e)

/-- Expert `e`'s result for token `t` in column `d`. -/
def expert (X : (⟨2, ![512, 512]⟩ : Shape).Idx → EReal) (A : (⟨3, ![8, 512, 1024]⟩ : Shape).Idx → EReal)
    (B : (⟨3, ![8, 1024, 512]⟩ : Shape).Idx → EReal) (t d : Fin 512) (e : Fin 8) : EReal :=
  ∑ f : Fin 1024, max (∑ k : Fin 512, X (ix2 t k) * A (ix3 e k f)) 0 * B (ix3 e f d)

/-- A finite sum of products of finite values is finite. -/
theorem gate_finite (X : (⟨2, ![512, 512]⟩ : Shape).Idx → EReal) (R : (⟨2, ![512, 8]⟩ : Shape).Idx → EReal)
    (hX : ∀ i, X i ≠ ⊥ ∧ X i ≠ ⊤) (hR : ∀ i, R i ≠ ⊥ ∧ R i ≠ ⊤) (t : Fin 512) (e : Fin 8) :
    gate X R t e ≠ ⊥ ∧ gate X R t e ≠ ⊤ := by
  unfold gate
  refine Finset.sum_induction _ (fun v : EReal => v ≠ ⊥ ∧ v ≠ ⊤) (fun a b ha hb => ?_) ⟨EReal.zero_ne_bot, EReal.zero_ne_top⟩
    fun k _ => ?_
  · lift a to ℝ using ha.symm
    lift b to ℝ using hb.symm
    rw [← EReal.coe_add]
    exact ⟨EReal.coe_ne_bot _, EReal.coe_ne_top _⟩
  · rw [← EReal.coe_toReal (hX (ix2 t k)).2 (hX (ix2 t k)).1, ← EReal.coe_toReal (hR (ix2 k e)).2 (hR (ix2 k e)).1, ← EReal.coe_mul]
    exact ⟨EReal.coe_ne_bot _, EReal.coe_ne_top _⟩

/-- The two positions of the greatest gates. -/
def chosen (g : Fin 8 → EReal) : Fin 8 × Fin 8 :=
  ⟨(exists_top2 g).choose, (exists_top2 g).choose_spec.choose⟩

theorem chosen_top2 (g : Fin 8 → EReal) : Top2 g (chosen g).1 (chosen g).2 := (exists_top2 g).choose_spec.choose_spec

/-- One element of the layer's result: the two chosen experts' results by their weights. -/
def moe (X : (⟨2, ![512, 512]⟩ : Shape).Idx → EReal) (R : (⟨2, ![512, 8]⟩ : Shape).Idx → EReal)
    (A : (⟨3, ![8, 512, 1024]⟩ : Shape).Idx → EReal) (B : (⟨3, ![8, 1024, 512]⟩ : Shape).Idx → EReal) (t d : Fin 512) : EReal :=
  expert X A B t d (chosen (gate X R t)).1 * w₁ (gate X R t (chosen (gate X R t)).1) (gate X R t (chosen (gate X R t)).2)
    + expert X A B t d (chosen (gate X R t)).2 * w₂ (gate X R t (chosen (gate X R t)).1) (gate X R t (chosen (gate X R t)).2)

end Cert.Router

end
-- ==== Proof.ValueKernel.lean ====
/-
  What the kernel's devices end with, element by element: each device's slice of the tokens' results, as the sum over
  the eight experts of the expert's result times its dense weight.
-/
module

public import proofs.«01_k».proof.Proof.Common
public import proofs.«01_k».proof.Proof.Router

@[expose] public section

set_option maxRecDepth 16384

noncomputable section

namespace Cert.KernelIdeal.Moe

open Cert.KernelIdeal Cert.KernelIdeal.Gen Cert.Router

open Idealize.ShloMosaic
open Idealize.ShloMosaic.TcCoe

/-! ## The dense weights -/

/-- Two rounds of maximum, first position, mask: the dense weight of each expert. -/
theorem pay5_apply (g : FVec Ideal S512x8 .f32) (t : Fin 512) (i j : Fin 8) (h : Top2 (fun e => g (ix2 t e)) i j)
    (hb : ∀ e, g (ix2 t e) ≠ ⊥) (e : Fin 8) : k0_pay5 g (ix2 t e) = dense (fun e => g (ix2 t e)) i j e := by
  have hm : Finset.fold max (⊥ : EReal) (fun x => g (ix2 t x)) Finset.univ = g (ix2 t i) :=
    fold_max_eq _ _ i bot_le h.le₁
  have hi : Finset.fold IntOp.minsi (2147483647#32)
      (fun x : Fin 8 => if g (ix2 t x) = g (ix2 t i) then BitVec.ofNat 32 x.val else 8#32) Finset.univ = BitVec.ofNat 32 i.val :=
    fold_first _ i rfl fun k hk => (h.lt₁ k hk).ne
  have hm₂ : Finset.fold max (⊥ : EReal) (fun x => if x = i then ⊥ else g (ix2 t x)) Finset.univ = g (ix2 t j) := by
    refine (fold_max_eq (fun x => if x = i then ⊥ else g (ix2 t x)) _ j bot_le fun k => ?_).trans (if_neg h.ne)
    by_cases hk : k = i
    · simp [hk]
    · simpa [hk, h.ne] using h.le₂ k hk
  have hj : Finset.fold IntOp.minsi (2147483647#32)
      (fun x : Fin 8 => if (if x = i then ⊥ else g (ix2 t x)) = g (ix2 t j) then BitVec.ofNat 32 x.val else 8#32) Finset.univ
        = BitVec.ofNat 32 j.val := by
    refine fold_first _ j (if_neg h.ne) fun k hk => ?_
    by_cases hki : k = i
    · rw [if_pos hki]; exact (hb j).symm
    · rw [if_neg hki]; exact (h.lt₂ k hki hk).ne
  have hn : (Named.named κ "mask" 0xF149F2CA#32 : Ideal .f32) = (⊥ : EReal) :=
    IdealRules.named_const.ideal_named_scalar _ _ _ _ rfl
  pointwise [k0_pay5]
  simp only [ofBits_ninf, hm, hi, sel_word, hn, hm₂, hj]
  rfl

/-! ## The gathered arrays -/

variable (m : (ℓ : Loc nD τ sig) → Buf (Elt Ideal) ℓ)

/-- The one block of a window over a whole array is the array. -/
theorem whole_emb0 (i : S128x512.Idx) : (win0_0.blk (0 : Fin 1)).view.emb i = i := by
  funext a; apply Fin.ext; show 0 * _ + 1 * (i a).val = (i a).val; omega
theorem whole_emb1 (i : S512x2.Idx) : (win0_1.blk (0 : Fin 1)).view.emb i = i := by
  funext a; apply Fin.ext; show 0 * _ + 1 * (i a).val = (i a).val; omega
theorem whole_emb2 (i : S2x512x1024.Idx) : (win0_2.blk (0 : Fin 1)).view.emb i = i := by
  funext a; apply Fin.ext; show 0 * _ + 1 * (i a).val = (i a).val; omega
theorem whole_emb3 (i : S2x1024x512.Idx) : (win0_3.blk (0 : Fin 1)).view.emb i = i := by
  funext a; apply Fin.ext; show 0 * _ + 1 * (i a).val = (i a).val; omega
theorem whole_emb4 (i : S128x512.Idx) : (win0_4.blk (0 : Fin 1)).view.emb i = i := by
  funext a; apply Fin.ext; show 0 * _ + 1 * (i a).val = (i a).val; omega

theorem xstg_eq (c : Dev nD) : xstg m c = m ((c : Thread nD τ).loc main_arg0) :=
  funext fun i => congrArg (m ((c : Thread nD τ).loc main_arg0)) (whole_emb0 i)
theorem rstg_eq (c : Dev nD) : rstg m c = m ((c : Thread nD τ).loc main_arg1) :=
  funext fun i => congrArg (m ((c : Thread nD τ).loc main_arg1)) (whole_emb1 i)
theorem astg_eq (c : Dev nD) : astg m c = m ((c : Thread nD τ).loc main_arg2) :=
  funext fun i => congrArg (m ((c : Thread nD τ).loc main_arg2)) (whole_emb2 i)
theorem bstg_eq (c : Dev nD) : bstg m c = m ((c : Thread nD τ).loc main_arg3) :=
  funext fun i => congrArg (m ((c : Thread nD τ).loc main_arg3)) (whole_emb3 i)

/-- Every device holds its blocks of the four whole arrays. -/
structure Blocks (X : S512x512.Idx → EReal) (R : S512x8.Idx → EReal) (A : (⟨3, ![8, 512, 1024]⟩ : Shape).Idx → EReal)
    (B : (⟨3, ![8, 1024, 512]⟩ : Shape).Idx → EReal) : Prop where
  x : ∀ c : Dev nD, m ((c : Thread nD τ).loc main_arg0) = Layout.block ⟨2, ![128, 512]⟩ ⟨2, ![512, 512]⟩ 0 4 c X
  r : ∀ c : Dev nD, m ((c : Thread nD τ).loc main_arg1) = Layout.block ⟨2, ![512, 2]⟩ ⟨2, ![512, 8]⟩ 1 4 c R
  a : ∀ c : Dev nD, m ((c : Thread nD τ).loc main_arg2) = Layout.block ⟨3, ![2, 512, 1024]⟩ ⟨3, ![8, 512, 1024]⟩ 0 4 c A
  b : ∀ c : Dev nD, m ((c : Thread nD τ).loc main_arg3) = Layout.block ⟨3, ![2, 1024, 512]⟩ ⟨3, ![8, 1024, 512]⟩ 0 4 c B

/-- The expert's number of member `k` of device `c`. -/
abbrev ex (c : Dev nD) (k : Fin 2) : Fin 8 := ⟨2 * c.val + k.val, by have : c.val < 4 := c.isLt; omega⟩
/-- The token's number of row `r` of device `c`. -/
abbrev row (c : Dev nD) (r : Fin 128) : Fin 512 := ⟨128 * c.val + r.val, by have : c.val < 4 := c.isLt; omega⟩

theorem block_idx0 (h : Layout.Tiles ⟨2, ![128, 512]⟩ ⟨2, ![512, 512]⟩ 0 4) (c : Dev nD) (r : Fin 128) (k : Fin 512) :
    h.idx c (ix2 r k) = ix2 (row c r) k := by
  funext a
  apply Fin.ext
  rw [Layout.Tiles.idx_val]
  fin_cases a <;> simp [ix2, Nat.mul_comm]
theorem block_idx1 (h : Layout.Tiles ⟨2, ![512, 2]⟩ ⟨2, ![512, 8]⟩ 1 4) (c : Dev nD) (k : Fin 512) (e : Fin 2) :
    h.idx c (ix2 k e) = ix2 k (ex c e) := by
  funext a
  apply Fin.ext
  rw [Layout.Tiles.idx_val]
  fin_cases a <;> simp [ix2, Nat.mul_comm]
theorem block_idx2 (h : Layout.Tiles ⟨3, ![2, 512, 1024]⟩ ⟨3, ![8, 512, 1024]⟩ 0 4) (c : Dev nD) (e : Fin 2) (k : Fin 512) (f : Fin 1024) :
    h.idx c (ix3 e k f) = ix3 (ex c e) k f := by
  funext a
  apply Fin.ext
  rw [Layout.Tiles.idx_val]
  fin_cases a <;> simp [ix3, Nat.mul_comm]
theorem block_idx3 (h : Layout.Tiles ⟨3, ![2, 1024, 512]⟩ ⟨3, ![8, 1024, 512]⟩ 0 4) (c : Dev nD) (e : Fin 2) (f : Fin 1024) (d : Fin 512) :
    h.idx c (ix3 e f d) = ix3 (ex c e) f d := by
  funext a
  apply Fin.ext
  rw [Layout.Tiles.idx_val]
  fin_cases a <;> simp [ix3, Nat.mul_comm]

section
variable {X : S512x512.Idx → EReal} {R : S512x8.Idx → EReal} {A : (⟨3, ![8, 512, 1024]⟩ : Shape).Idx → EReal}
  {B : (⟨3, ![8, 1024, 512]⟩ : Shape).Idx → EReal} (H : Blocks m X R A B)
include H

theorem xstg_apply (c : Dev nD) (r : Fin 128) (k : Fin 512) : xstg m c (ix2 r k) = X (ix2 (row c r) k) := by
  rw [xstg_eq, H.x c]; exact congrArg X (block_idx0 _ c r k)
theorem rstg_apply (c : Dev nD) (k : Fin 512) (e : Fin 2) : rstg m c (ix2 k e) = R (ix2 k (ex c e)) := by
  rw [rstg_eq, H.r c]; exact congrArg R (block_idx1 _ c k e)
theorem astg_apply (c : Dev nD) (e : Fin 2) (k : Fin 512) (f : Fin 1024) : astg m c (ix3 e k f) = A (ix3 (ex c e) k f) := by
  rw [astg_eq, H.a c]; exact congrArg A (block_idx2 _ c e k f)
theorem bstg_apply (c : Dev nD) (e : Fin 2) (f : Fin 1024) (d : Fin 512) : bstg m c (ix3 e f d) = B (ix3 (ex c e) f d) := by
  rw [bstg_eq, H.b c]; exact congrArg B (block_idx3 _ c e f d)

theorem xgAll_apply (t k : Fin 512) : xgAll m (ix2 t k) = X (ix2 t k) := by
  have h : xgAll m (ix2 t k) = k0_pay2 (xstg m ⟨t.val / 128, by have := t.isLt; show _ < 4; omega⟩)
    (ix2 ⟨t.val % 128, Nat.mod_lt _ (by decide)⟩ k) := rfl
  rw [h]
  pointwise [k0_pay2]
  rw [xstg_apply m H]
  congr 2
  apply Fin.ext
  show 128 * (t.val / 128) + t.val % 128 = t.val
  omega

theorem rgAll_apply (c : Fin 4) (k : Fin 512) (e : Fin 2) : rgAll m (ix3 c k e) = R (ix2 k (ex c e)) := by
  have h : rgAll m (ix3 c k e) = k0_pay3 (rstg m c) (ix3 0 k e) := rfl
  rw [h]
  pointwise [k0_pay3]
  exact rstg_apply m H c k e

/-- The gates, the same on every device. -/
theorem gates_apply (t : Fin 512) (e : Fin 8) : k0_pay4 (xgAll m) (rgAll m) (ix2 t e) = gate X R t e := by
  pointwise [k0_pay4]
  unfold gate
  refine Finset.sum_congr rfl fun k _ => ?_
  rw [xgAll_apply m H]
  congr 1
  fin_vals e with he
  all_goals simp only [he, Nat.reduceSub, Nat.reduceLT, ↓reduceDIte]
  all_goals exact (rgAll_apply m H _ k _).trans (congrArg (fun e => R (ix2 k e)) (Fin.ext he.symm))

omit H in
/-- The sum over the columns of the weights kept in one column is that column. -/
theorem sum_sel (w : Fin 8 → EReal) (e : Fin 8) (b : BitVec 32) (hb : b = BitVec.ofNat 32 e.val) :
    ∑ x : Fin 8, Scalar.select (IntOp.cmpi .eq (BitVec.ofNat 32 x.val) b) (w x) 0 = w e := by
  subst hb
  simp only [sel_word, Finset.sum_ite_eq', Finset.mem_univ, if_true]

omit H in
theorem word0 (c : Dev nD) : Scalar.addi (Scalar.muli 2#32 (myw c)) 0#32 = BitVec.ofNat 32 (ex c 0).val := by
  revert c; decide
omit H in
theorem word1 (c : Dev nD) : Scalar.addi (Scalar.muli 2#32 (myw c)) 1#32 = BitVec.ofNat 32 (ex c 1).val := by
  revert c; decide

/-- A device's partial sums: its two experts' results by their dense weights. -/
theorem prAll_apply (c : Dev nD) (t d : Fin 512) (i j : Fin 8) (h : Top2 (gate X R t) i j) (hb : ∀ e, gate X R t e ≠ ⊥) :
    prAll m c (ix2 t d) = expert X A B t d (ex c 0) * dense (gate X R t) i j (ex c 0)
      + expert X A B t d (ex c 1) * dense (gate X R t) i j (ex c 1) := by
  have hg : (fun e => k0_pay4 (xgAll m) (rgAll m) (ix2 t e)) = gate X R t := funext fun e => gates_apply m H t e
  have hw : ∀ e, k0_pay5 (k0_pay4 (xgAll m) (rgAll m)) (ix2 t e) = dense (gate X R t) i j e := fun e => by
    rw [pay5_apply _ t i j (by rw [hg]; exact h) (fun e => by rw [gates_apply m H]; exact hb e) e, hg]
  unfold prAll
  pointwise [k0_pay9, k0_pay8, k0_pay6, k0_pay7]
  rw [sum_sel _ (ex c 0) _ (word0 c), sum_sel _ (ex c 1) _ (word1 c), hw, hw]
  have ha : ∀ (s : Fin 2) (k : Fin 512) (f : Fin 1024), asl m c s (ix3 0 k f) = A (ix3 (ex c s) k f) :=
    fun s k f => astg_apply m H c s k f
  have hb' : ∀ (s : Fin 2) (f : Fin 1024) (d : Fin 512), bsl m c s (ix3 0 f d) = B (ix3 (ex c s) f d) :=
    fun s f d => bstg_apply m H c s f d
  unfold expert
  simp only [xgAll_apply m H, ha, hb']

omit H in
/-- Around the ring from any device, the pairs of experts make up all eight. -/
theorem ring_sum (P : Fin 8 → EReal) (c : Dev nD) :
    P (ex c 0) + P (ex c 1) + (P (ex (nx c) 0) + P (ex (nx c) 1) + (P (ex (nx (nx c)) 0) + P (ex (nx (nx c)) 1)
      + (P (ex (nx (nx (nx c))) 0) + P (ex (nx (nx (nx c))) 1)))) = P 0 + P 1 + P 2 + P 3 + P 4 + P 5 + P 6 + P 7 := by
  have hc : c = 0 ∨ c = 1 ∨ c = 2 ∨ c = 3 := by revert c; decide
  rcases hc with rfl | rfl | rfl | rfl
  · change P 0 + P 1 + (P 2 + P 3 + (P 4 + P 5 + (P 6 + P 7))) = _
    ac_rfl
  · change P 2 + P 3 + (P 4 + P 5 + (P 6 + P 7 + (P 0 + P 1))) = _
    ac_rfl
  · change P 4 + P 5 + (P 6 + P 7 + (P 0 + P 1 + (P 2 + P 3))) = _
    ac_rfl
  · change P 6 + P 7 + (P 0 + P 1 + (P 2 + P 3 + (P 4 + P 5))) = _
    ac_rfl

/-- A device's result: the sum over the ring of the partial sums of its own chunk. -/
theorem outAt_apply (c : Dev nD) (r : Fin 128) (d : Fin 512) (i j : Fin 8) (h : Top2 (gate X R (row c r)) i j)
    (hb : ∀ e, gate X R (row c r) e ≠ ⊥) :
    outAt m c (ix2 r d) = expert X A B (row c r) d i * w₁ (gate X R (row c r) i) (gate X R (row c r) j)
      + expert X A B (row c r) d j * w₂ (gate X R (row c r) i) (gate X R (row c r) j) := by
  rw [← sum_dense (gate X R (row c r)) (expert X A B (row c r) d) i j h.ne]
  have hp : ∀ c' : Dev nD, prChunk m c' c (ix2 r d) = _ := fun c' => prAll_apply m H c' (row c r) d i j h hb
  have e : outAt m c (ix2 r d) = prChunk m c c (ix2 r d) + (prChunk m (nx c) c (ix2 r d)
      + (prChunk m (nx (nx c)) c (ix2 r d) + prChunk m (nx (nx (nx c))) c (ix2 r d))) := by
    have s1 : sh (nx (nx (nx c))) 1 = c := (by decide : ∀ c : Dev nD, sh (nx (nx (nx c))) 1 = c) c
    have s2 : sh (nx (nx c)) 2 = c := (by decide : ∀ c : Dev nD, sh (nx (nx c)) 2 = c) c
    have s3 : sh (nx c) 3 = c := (by decide : ∀ c : Dev nD, sh (nx c) 3 = c) c
    unfold outAt st2 st1 st0
    rw [s1, s2, s3]
    pointwise [k0_pay1, k0_pay12, k0_pay11, k0_pay10]
  rw [e, hp, hp, hp, hp, Fin.sum_univ_eight]
  exact ring_sum (fun e => expert X A B (row c r) d e * dense (gate X R (row c r)) i j e) c

end

end Cert.KernelIdeal.Moe

end
-- ==== Proof.ValueReference.lean ====
/-
  What the reference ends with, element by element: the two chosen experts' results by their weights.
-/
module

public import proofs.«01_k».proof.Proof.Gen.ReferenceIdeal.Run
public import proofs.«01_k».proof.Proof.Router
public import Idealize.ShloMosaic.Lib.Tactic.CleanTypes

@[expose] public section

set_option maxRecDepth 16384

noncomputable section

namespace Cert.ReferenceIdeal.Value

open Cert.ReferenceIdeal Cert.ReferenceIdeal.Gen Cert.Router
open Idealize.ShloMosaic Idealize.ShloMosaic.StableHlo

/-- On extended reals the sort's comparator is the order of the keys. -/
theorem comparator_apply (l r : Ideal .f32 × BitVec 32) :
    (comparator_f32_i32_d1 (F := Ideal) l r == 1#1) = decide ((l.1 : EReal) < r.1) := by
  unfold comparator_f32_i32_d1
  pointwise
  have z : ∀ x : EReal, (if x ≠ x then Ideal.ofBits FTy.f32 2143289344#32 else if x = 0 then 0 else x) = x := fun x => by
    rw [if_neg (fun h => h rfl)]
    split_ifs with h
    · exact h.symm
    · rfl
  refine Eq.trans (congrArg₂ (fun a b : EReal => (Ideal.cmp .olt a b == 1#1)) (z l.1) (z r.1)) ?_
  by_cases h : (l.1 : EReal) < r.1 <;> simp [Ideal.cmp, h]

theorem along_ix2 (t : Fin 512) (k a : Fin 8) : Shape.Idx.along (s := S512x8) (ix2 t k) (1 : Fin 2) a = ix2 t a := by
  funext b
  fin_cases b
  · exact Function.update_of_ne (by decide) _ _
  · exact Function.update_self _ _ _

/-- The second operand of a sort of rows of eight, at a position: the operand at the position it comes from. -/
theorem sort_apply (x : FVec Ideal S512x8 .f32) (y : IVec S512x8 32) (t : Fin 512) (k : Fin 8) :
    (Host.sort2 S512x8 1 comparator_f32_i32_d1 x y).2 (ix2 t k)
      = y (ix2 t (sortedFrom (fun a b => decide ((x (ix2 t a) : EReal) < x (ix2 t b))) k)) := by
  unfold Host.sort2
  rw [dif_pos (by decide : 1 < S512x8.rank)]
  refine congrArg y ((along_ix2 t k _).trans ?_)
  refine congrArg (fun p => ix2 t (sortedFrom p k)) ?_
  funext a b
  exact (comparator_apply _ _).trans (congrArg₂ (fun i j : S512x8.Idx => decide ((x i : EReal) < x j)) (along_ix2 t k a) (along_ix2 t k b))

/-- The gather along the rows, at an index in range. -/
theorem gather_apply (x : FVec Ideal S512x8 .f32) (idx : IVec S512x2x1 32) (t : Fin 512) (e : Fin 2) (n : Fin 8)
    (h : idx (ix3 t e 0) = BitVec.ofNat 32 n.val) :
    Host.gather gather_S512x8_S512x2x1_S512x2_n_1_0_0_1_2_11 x idx (ix2 t e) = x (ix2 t n) := by
  have hs : gather_S512x8_S512x2x1_S512x2_n_1_0_0_1_2_11.siIdx (ix2 t e) ⟨0, by decide⟩ = ix3 t e 0 := by
    funext b
    fin_cases b <;> rfl
  have hn : min (BitVec.ofNat 32 n.val).toInt.toNat 7 = n.val :=
    (by decide : ∀ n : Fin 8, min (BitVec.ofNat 32 n.val).toInt.toNat 7 = n.val) n
  unfold Host.gather
  congr 1
  funext a
  apply Fin.ext
  fin_cases a
  · have h0 : gather_S512x8_S512x2x1_S512x2_n_1_0_0_1_2_11.start (ix2 t e) idx 0 = 0 := rfl
    have h1 : gather_S512x8_S512x2x1_S512x2_n_1_0_0_1_2_11.batchCoord (ix2 t e) 0 = t.val := rfl
    have h2 : gather_S512x8_S512x2x1_S512x2_n_1_0_0_1_2_11.offCoord (ix2 t e) 0 = 0 := rfl
    show gather_S512x8_S512x2x1_S512x2_n_1_0_0_1_2_11.start (ix2 t e) idx 0 + gather_S512x8_S512x2x1_S512x2_n_1_0_0_1_2_11.batchCoord (ix2 t e) 0
      + gather_S512x8_S512x2x1_S512x2_n_1_0_0_1_2_11.offCoord (ix2 t e) 0 = t.val
    rw [h0, h1, h2]; omega
  · have h0 : gather_S512x8_S512x2x1_S512x2_n_1_0_0_1_2_11.start (ix2 t e) idx 1
        = min (idx (gather_S512x8_S512x2x1_S512x2_n_1_0_0_1_2_11.siIdx (ix2 t e) ⟨0, by decide⟩)).toInt.toNat 7 := rfl
    have h1 : gather_S512x8_S512x2x1_S512x2_n_1_0_0_1_2_11.batchCoord (ix2 t e) 1 = 0 := rfl
    have h2 : gather_S512x8_S512x2x1_S512x2_n_1_0_0_1_2_11.offCoord (ix2 t e) 1 = 0 := rfl
    show gather_S512x8_S512x2x1_S512x2_n_1_0_0_1_2_11.start (ix2 t e) idx 1 + gather_S512x8_S512x2x1_S512x2_n_1_0_0_1_2_11.batchCoord (ix2 t e) 1
      + gather_S512x8_S512x2x1_S512x2_n_1_0_0_1_2_11.offCoord (ix2 t e) 1 = n.val
    rw [h0, h1, h2, hs, h, hn]; omega

/-- One expert's result, added under the choice. -/
theorem pick (E : Fin 8 → EReal) (w : EReal) (i : Fin 8) (b : BitVec 32) (hb : b = BitVec.ofNat 32 i.val) (z : EReal) (hz : z = 0) :
    ∀ s : EReal, s + Scalar.select (IntOp.cmpi .eq b 0#32) (E 0 * w) z + Scalar.select (IntOp.cmpi .eq b 1#32) (E 1 * w) z
      + Scalar.select (IntOp.cmpi .eq b 2#32) (E 2 * w) z + Scalar.select (IntOp.cmpi .eq b 3#32) (E 3 * w) z
      + Scalar.select (IntOp.cmpi .eq b 4#32) (E 4 * w) z + Scalar.select (IntOp.cmpi .eq b 5#32) (E 5 * w) z
      + Scalar.select (IntOp.cmpi .eq b 6#32) (E 6 * w) z + Scalar.select (IntOp.cmpi .eq b 7#32) (E 7 * w) z = s + E i * w := by
  intro s
  have hk : ∀ (k : Fin 8) (a : EReal), Scalar.select (IntOp.cmpi .eq b (BitVec.ofNat 32 k.val)) a z = if i = k then a else 0 :=
    fun k a => by rw [hb, sel_word, hz]
  have k0 := hk 0 (E 0 * w); have k1 := hk 1 (E 1 * w); have k2 := hk 2 (E 2 * w); have k3 := hk 3 (E 3 * w)
  have k4 := hk 4 (E 4 * w); have k5 := hk 5 (E 5 * w); have k6 := hk 6 (E 6 * w); have k7 := hk 7 (E 7 * w)
  change Scalar.select (IntOp.cmpi .eq b 0#32) _ _ = _ at k0
  change Scalar.select (IntOp.cmpi .eq b 1#32) _ _ = _ at k1
  change Scalar.select (IntOp.cmpi .eq b 2#32) _ _ = _ at k2
  change Scalar.select (IntOp.cmpi .eq b 3#32) _ _ = _ at k3
  change Scalar.select (IntOp.cmpi .eq b 4#32) _ _ = _ at k4
  change Scalar.select (IntOp.cmpi .eq b 5#32) _ _ = _ at k5
  change Scalar.select (IntOp.cmpi .eq b 6#32) _ _ = _ at k6
  change Scalar.select (IntOp.cmpi .eq b 7#32) _ _ = _ at k7
  rw [k0, k1, k2, k3, k4, k5, k6, k7]
  clear k0 k1 k2 k3 k4 k5 k6 k7 hk hb
  fin_cases i <;> simp

theorem ofBits_zero : Ideal.ofBits .f32 0#32 = 0 := by
  simp [Ideal.ofBits, Ideal.ieee]

/-- All the experts' results, added under the first and then under the second choice. -/
theorem total (E : Fin 8 → EReal) {i j : Fin 8} {b b' : BitVec 32} {z u u' v v' y0 y1 y2 y3 y4 y5 y6 y7 : EReal}
    (hb : b = BitVec.ofNat 32 i.val) (hb' : b' = BitVec.ofNat 32 j.val) (hz : z = 0) (hu : u = v) (hu' : u' = v')
    (h0 : y0 = E 0) (h1 : y1 = E 1) (h2 : y2 = E 2) (h3 : y3 = E 3) (h4 : y4 = E 4) (h5 : y5 = E 5) (h6 : y6 = E 6) (h7 : y7 = E 7) :
    Scalar.select (IntOp.cmpi .eq b 0#32) (y0 * u) z
      + Scalar.select (IntOp.cmpi .eq b 1#32) (y1 * u) z
      + Scalar.select (IntOp.cmpi .eq b 2#32) (y2 * u) z
      + Scalar.select (IntOp.cmpi .eq b 3#32) (y3 * u) z
      + Scalar.select (IntOp.cmpi .eq b 4#32) (y4 * u) z
      + Scalar.select (IntOp.cmpi .eq b 5#32) (y5 * u) z
      + Scalar.select (IntOp.cmpi .eq b 6#32) (y6 * u) z
      + Scalar.select (IntOp.cmpi .eq b 7#32) (y7 * u) z
      + Scalar.select (IntOp.cmpi .eq b' 0#32) (y0 * u') z
      + Scalar.select (IntOp.cmpi .eq b' 1#32) (y1 * u') z
      + Scalar.select (IntOp.cmpi .eq b' 2#32) (y2 * u') z
      + Scalar.select (IntOp.cmpi .eq b' 3#32) (y3 * u') z
      + Scalar.select (IntOp.cmpi .eq b' 4#32) (y4 * u') z
      + Scalar.select (IntOp.cmpi .eq b' 5#32) (y5 * u') z
      + Scalar.select (IntOp.cmpi .eq b' 6#32) (y6 * u') z
      + Scalar.select (IntOp.cmpi .eq b' 7#32) (y7 * u') z
      = E i * v + E j * v' := by
  subst hu hu' h0 h1 h2 h3 h4 h5 h6 h7
  have e := pick E u i b hb z hz 0
  rw [zero_add, zero_add] at e
  rw [e]
  exact pick E u' j b' hb' z hz _

section

variable (V0 : Valuation τ sig (Elt Ideal)) (X : S512x512.Idx → EReal) (R : S512x8.Idx → EReal)
  (A : (⟨3, ![8, 512, 1024]⟩ : Shape).Idx → EReal) (B : (⟨3, ![8, 1024, 512]⟩ : Shape).Idx → EReal)

/-- The four arguments, as plain functions. -/
structure Args : Prop where
  x : V0 (Proc.devRef .tc main_arg0) = X
  r : V0 (Proc.devRef .tc main_arg1) = R
  a : V0 (Proc.devRef .tc main_arg2) = A
  b : V0 (Proc.devRef .tc main_arg3) = B

variable {X R A B} (H : Args V0 X R A B)
include H

theorem gates_ref (t : Fin 512) (e : Fin 8) : res_main_v0 V0 (ix2 t e) = gate X R t e := by
  unfold res_main_v0
  rw [H.x, H.r]
  clean_types
  pointwise
  rfl

variable {t : Fin 512} {i j : Fin 8} (h : Top2 (gate X R t) i j) (hf : ∀ e, gate X R t e ≠ ⊥ ∧ gate X R t e ≠ ⊤)
include h

/-- The two chosen experts' numbers. -/
theorem ids_ref (e : Fin 2) : (res_main_v3 V0 (ix2 t e) : BitVec 32) = BitVec.ofNat 32 ((![i, j] : Fin 2 → Fin 8) e).val := by
  have hg : (fun a => gate X R t a) = fun a => res_main_v0 V0 (ix2 t a) := funext fun a => (gates_ref V0 H t a).symm
  have hk : ∀ a, res_main_v1 V0 (ix2 t a) = -(gate X R t a) := fun a => by
    rw [← gates_ref V0 H t a]
    unfold res_main_v1
    clean_types
    pointwise
  have hi : ∀ a : Fin 8, (res_main_call0_v0 V0 (ix2 t a) : BitVec 32) = BitVec.ofNat 32 a.val := fun a => by
    unfold res_main_call0_v0
    clean_types
    pointwise
  rw [← sortedFrom_top2 (gate X R t) i j h e]
  unfold res_main_v3
  clean_types
  pointwise
  refine (sort_apply _ _ _ _).trans ?_
  refine (hi _).trans ?_
  refine congrArg (fun p => BitVec.ofNat 32 (sortedFrom p (e.castLE (by decide))).val) ?_
  funext a b
  exact congrArg₂ (fun x y : EReal => decide (x < y)) (hk a) (hk b)

/-- The indices read at: no index wraps. -/
theorem idx_ref (e : Fin 2) :
    (res_main_call1_v5 V0 (ix3 t e 0) : BitVec 32) = BitVec.ofNat 32 ((![i, j] : Fin 2 → Fin 8) e).val := by
  unfold res_main_call1_v5
  clean_types
  pointwise
  refine (congrArg (fun b : BitVec 32 => Scalar.select (IntOp.cmpi .slt b 0#32) (IntOp.addi b 8#32) b) (ids_ref V0 H h e)).trans ?_
  exact (by decide : ∀ n : Fin 8, Scalar.select (IntOp.cmpi .slt (BitVec.ofNat 32 n.val) 0#32)
    (IntOp.addi (BitVec.ofNat 32 n.val) 8#32) (BitVec.ofNat 32 n.val) = BitVec.ofNat 32 n.val) _

/-- The two chosen experts' gates. -/
theorem top_ref (e : Fin 2) : (res_main_v4 V0 (ix2 t e) : EReal) = gate X R t ((![i, j] : Fin 2 → Fin 8) e) := by
  unfold res_main_v4
  clean_types
  pointwise
  rw [gather_apply _ _ t e _ (idx_ref V0 H h e), gates_ref V0 H]
  have hin : ∀ n : Fin 8, IntOp.andi (IntOp.andi (IntOp.cmpi .sge (BitVec.ofNat 32 n.val) 0#32)
      (IntOp.cmpi .sle (BitVec.ofNat 32 n.val) 7#32)) 1#1 = 1#1 := by decide
  have hi : (Finset.fold IntOp.andi (1#1)
      (fun x : Fin 1 => IntOp.andi (IntOp.cmpi .sge (res_main_call1_v5 V0 (ix3 t e x) : BitVec 32) 0#32)
        (IntOp.cmpi .sle (res_main_call1_v5 V0 (ix3 t e x) : BitVec 32) 7#32)) Finset.univ) = 1#1 := by
    rw [Finset.univ_unique, Finset.fold_singleton]
    refine Eq.trans ?_ (hin ((![i, j] : Fin 2 → Fin 8) e))
    exact congrArg (fun b : BitVec 32 => IntOp.andi (IntOp.andi (IntOp.cmpi .sge b 0#32) (IntOp.cmpi .sle b 7#32)) 1#1)
      (idx_ref V0 H h e)
  exact (congrArg (fun b : BitVec 1 => Scalar.select b (gate X R t ((![i, j] : Fin 2 → Fin 8) e)) _) hi).trans rfl

theorem exp_ref (e : Fin 2) : (res_main_v9 V0 (ix2 t e) : EReal)
    = Ideal.exp (gate X R t ((![i, j] : Fin 2 → Fin 8) e) - gate X R t i) := by
  unfold res_main_v9
  clean_types
  pointwise
  have hv : (fun x : Fin 2 => (res_main_v4 V0 (ix2 t x) : EReal)) = fun x => gate X R t ((![i, j] : Fin 2 → Fin 8) x) :=
    funext fun x => top_ref V0 H h x
  have hm : Finset.fold max (Ideal.ofBits .f32 4286578688#32) (fun x : Fin 2 => (res_main_v4 V0 (ix2 t x) : EReal)) Finset.univ
      = gate X R t i := by
    rw [hv]
    exact fold_max_eq (fun x : Fin 2 => gate X R t ((![i, j] : Fin 2 → Fin 8) x)) _ 0
      (by rw [ofBits_ninf]; exact bot_le) (fun k => h.le₁ _)
  exact congrArg₂ (fun a b : EReal => Ideal.exp (a - b)) (top_ref V0 H h e) hm

include hf

theorem weight_ref (e : Fin 2) : (res_main_v13 V0 (ix2 t e) : EReal)
    = (![w₁ (gate X R t i) (gate X R t j), w₂ (gate X R t i) (gate X R t j)] : Fin 2 → EReal) e := by
  unfold res_main_v13
  clean_types
  pointwise
  have hs : gate X R t i - gate X R t i = 0 := by
    have := hf i
    revert this
    generalize gate X R t i = z
    intro hz
    exact EReal.sub_self hz.2 hz.1
  have h1 : Ideal.exp (0 : EReal) = 1 := by
    rw [← EReal.coe_zero, ← EReal.coe_one]
    exact congrArg ((↑) : ℝ → EReal) Real.exp_zero
  have e0 : @Eq EReal (res_main_v9 V0 (ix2 t (0 : Fin 2))) 1 := by
    refine (exp_ref V0 H h 0).trans ?_
    show Ideal.exp (gate X R t i - gate X R t i) = 1
    rw [hs, h1]
  have e1 : @Eq EReal (res_main_v9 V0 (ix2 t (1 : Fin 2))) (Ideal.exp (gate X R t j - gate X R t i)) := exp_ref V0 H h 1
  rw [Fin.sum_univ_two]
  fin_cases e
  · exact (congrArg₂ (fun a b : EReal => Ideal.div a (a + b)) e0 e1).trans rfl
  · exact (congrArg₂ (fun a b : EReal => Ideal.div b (a + b)) e0 e1).trans rfl

omit h hf in
/-- Each expert's result. -/
theorem experts_ref (t d : Fin 512) :
    @Eq EReal (res_main_v21 V0 (ix2 t d)) (expert X A B t d 0) ∧ @Eq EReal (res_main_v29 V0 (ix2 t d)) (expert X A B t d 1)
    ∧ @Eq EReal (res_main_v37 V0 (ix2 t d)) (expert X A B t d 2) ∧ @Eq EReal (res_main_v45 V0 (ix2 t d)) (expert X A B t d 3)
    ∧ @Eq EReal (res_main_v53 V0 (ix2 t d)) (expert X A B t d 4) ∧ @Eq EReal (res_main_v61 V0 (ix2 t d)) (expert X A B t d 5)
    ∧ @Eq EReal (res_main_v69 V0 (ix2 t d)) (expert X A B t d 6) ∧ @Eq EReal (res_main_v77 V0 (ix2 t d)) (expert X A B t d 7) := by
  refine ⟨?_, ?_, ?_, ?_, ?_, ?_, ?_, ?_⟩
  · unfold res_main_v21; rw [H.x, H.a, H.b]; clean_types; pointwise; rfl
  · unfold res_main_v29; rw [H.x, H.a, H.b]; clean_types; pointwise; rfl
  · unfold res_main_v37; rw [H.x, H.a, H.b]; clean_types; pointwise; rfl
  · unfold res_main_v45; rw [H.x, H.a, H.b]; clean_types; pointwise; rfl
  · unfold res_main_v53; rw [H.x, H.a, H.b]; clean_types; pointwise; rfl
  · unfold res_main_v61; rw [H.x, H.a, H.b]; clean_types; pointwise; rfl
  · unfold res_main_v69; rw [H.x, H.a, H.b]; clean_types; pointwise; rfl
  · unfold res_main_v77; rw [H.x, H.a, H.b]; clean_types; pointwise; rfl

end

/-- The reference's run: every element of its result is the two chosen experts' results by their weights. -/
theorem run_apply (m : (ℓ : Loc nD τ sig) → Buf (Elt Ideal) ℓ) (ρ : Dev nD → PrngReg) (X : S512x512.Idx → EReal) (R : S512x8.Idx → EReal)
    (A : (⟨3, ![8, 512, 1024]⟩ : Shape).Idx → EReal) (B : (⟨3, ![8, 1024, 512]⟩ : Shape).Idx → EReal)
    (H : ∀ c, Args (launchContents m c) X R A B) (hf : ∀ t e, gate X R t e ≠ ⊥ ∧ gate X R t e ≠ ⊤) :
    θ_run defs (onTc (τ := τ) (main (F := Ideal))) ⟨m, fun _ => 0, ρ⟩ fun r => ∀ c : Dev nD,
      (r.2.mem ((c.tc : Thread nD τ).loc main_v206) = fun x : S512x512.Idx => moe X R A B (x 0) (x 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run (F := Ideal) m ρ)
  funext x
  obtain ⟨t, d, rfl⟩ : ∃ (t : Fin 512) (d : Fin 512), x = ix2 t d := ⟨x 0, x 1, by funext b; fin_cases b <;> rfl⟩
  have H' := H c
  generalize launchContents m c = V0 at H' ⊢
  have ht := chosen_top2 (gate X R t)
  show _ = moe X R A B t d
  unfold moe
  have i0 : @Eq (BitVec 32) (res_main_v3 V0 (ix2 t (0 : Fin 2))) (BitVec.ofNat 32 (chosen (gate X R t)).1.val) := ids_ref V0 H' ht 0
  have i1 : @Eq (BitVec 32) (res_main_v3 V0 (ix2 t (1 : Fin 2))) (BitVec.ofNat 32 (chosen (gate X R t)).2.val) := ids_ref V0 H' ht 1
  have p0 : @Eq EReal (res_main_v13 V0 (ix2 t (0 : Fin 2))) (w₁ (gate X R t (chosen (gate X R t)).1) (gate X R t (chosen (gate X R t)).2)) :=
    weight_ref V0 H' ht (hf t) 0
  have p1 : @Eq EReal (res_main_v13 V0 (ix2 t (1 : Fin 2))) (w₂ (gate X R t (chosen (gate X R t)).1) (gate X R t (chosen (gate X R t)).2)) :=
    weight_ref V0 H' ht (hf t) 1
  obtain ⟨x0, x1, x2, x3, x4, x5, x6, x7⟩ := experts_ref V0 H' t d
  unfold res_main_v150
  clean_types
  pointwise
  clear h
  have T := total (E := expert X A B t d) (z := (id (constant S_ FTy.f32 0#32 : FVec Ideal S_ .f32) ix0 : EReal)) i0 i1 ofBits_zero p0 p1 x0 x1 x2 x3 x4 x5 x6 x7
  rw [← T]

end Cert.ReferenceIdeal.Value

end
-- ==== Proof.Result.lean ====
/-
  Where the idealized kernel's result array ends, the finiteness the precondition states, and the two programs joined.
-/
module

public import proofs.«01_k».proof.Defs
public import proofs.«01_k».proof.Proof.Launch
public import proofs.«01_k».proof.Proof.ValueKernel
public import proofs.«01_k».proof.Proof.ValueReference
public import proofs.«01_k».proof.Proof.Gen.Pre_finite_gates_KernelIdeal

@[expose] public section

set_option maxRecDepth 16384

noncomputable section

namespace Cert.KernelIdeal.Moe

open Cert.KernelIdeal Cert.KernelIdeal.Gen Cert.Router
open Idealize.ShloMosaic Idealize.ShloMosaic.TcCoe
open Idealize.SL Idealize.SL.Sem

/-! ## The result array -/

section
variable (m : (ℓ : Loc nD τ sig) → Buf (Elt Ideal) ℓ) (ρ : Dev nD → PrngReg)

theorem flushed_eq (c : Dev nD) (t : Fin cfg0.N) :
    (dats m ρ 0 c).flushed 4 t = ((cfg0.win 4).blk t).view.read (Elt Ideal) (outAt m c) := by
  obtain rfl : t = (0 : Fin 1) := Subsingleton.elim (α := Fin 1) _ _
  funext i
  exact (congrArg (outAt m c) (whole_emb4 i)).symm

theorem cover (i : S128x512.Idx) : ∃ t : Fin cfg0.N, (cfg0.win 4).flush t = true ∧ i ∈ ((cfg0.win 4).blk t).view.set := by
  refine ⟨(0 : Fin 1), flush0_4 _, ?_⟩
  have h := (win0_4.blk (0 : Fin 1)).view.emb_mem_set i
  rw [whole_emb4] at h
  exact h

/-- A device's result array ends at its slice of the sums. -/
theorem finalA_4 (c : Dev nD) : finalA m ρ c (4 : Fin 5) = outAt m c :=
  (dats m ρ 0 c).arrAt_eq_of_cover 4 (outAt m c) (fun t _ => flushed_eq m ρ c t) cover

/-- The run, of the five arrays. -/
theorem run_arrays : θ_run defs (onTc (τ := τ) (main (F := Ideal))) ⟨m, fun _ => 0, ρ⟩ fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c), (h.1 c (3 : Fin 5)).trans (finalA_3 m ρ c)⟩, h.2⟩)
    (run_main m ρ)

end

/-! ## What the precondition says -/

theorem all_of_fold {α : Type} (s : Finset α) (f : α → BitVec 1) (h : s.fold IntOp.andi 1#1 f = 1#1) : ∀ k ∈ s, f k = 1#1 := by
  classical
  induction s using Finset.induction_on with
  | empty => simp
  | insert a s ha ih =>
    rw [Finset.fold_insert ha] at h
    have h' := (IntOp.andi_eq_one).mp h
    intro k hk
    rcases Finset.mem_insert.mp hk with rfl | hk
    · exact h'.1
    · exact ih h'.2 k hk

theorem lt_top_finite (x : EReal) (h : BitVec.ofBool (decide ((FloatOps.absf (F := Ideal) (φ := .f32) x : EReal) < Ideal.ofBits .f32 0x7F800000#32)) = 1#1) :
    x ≠ ⊥ ∧ x ≠ ⊤ := by
  have ht : Ideal.ofBits .f32 0x7F800000#32 = ⊤ := by simp [Ideal.ofBits, Ideal.ieee]
  rw [ht] at h
  have hl : max x (-x) < ⊤ := by
    by_contra hn
    have hn' : ¬ ((FloatOps.absf (F := Ideal) (φ := .f32) x : EReal) < ⊤) := hn
    rw [decide_eq_false hn'] at h
    exact absurd h (by decide)
  refine ⟨fun e => ?_, fun e => ?_⟩
  · rw [e] at hl; simp at hl
  · rw [e] at hl; simp at hl

theorem pre_finite (a0 : FVec Ideal S128x512 .f32) (a1 : FVec Ideal S512x2 .f32) (a2 : FVec Ideal S2x512x1024 .f32)
    (a3 : FVec Ideal S2x1024x512 .f32) (h : Cert.Pre_finite_gates_KernelIdeal.fn (F := Ideal) a0 a1 a2 a3 = fun _ => 1#1) :
    (∀ r k, (a0 (ix2 r k) : EReal) ≠ ⊥ ∧ (a0 (ix2 r k) : EReal) ≠ ⊤) ∧ (∀ k e, (a1 (ix2 k e) : EReal) ≠ ⊥ ∧ (a1 (ix2 k e) : EReal) ≠ ⊤) := by
  have h0 := congrFun h ix0
  have key : Cert.Pre_finite_gates_KernelIdeal.fn (F := Ideal) a0 a1 a2 a3 ix0
      = IntOp.andi
        (Finset.fold IntOp.andi 1#1 (fun k : Fin 128 × Fin 512 =>
          BitVec.ofBool (decide ((FloatOps.absf (F := Ideal) (φ := .f32) (a0 (ix2 k.1 k.2)) : EReal) < Ideal.ofBits .f32 0x7F800000#32))) Finset.univ)
        (Finset.fold IntOp.andi 1#1 (fun k : Fin 512 × Fin 2 =>
          BitVec.ofBool (decide ((FloatOps.absf (F := Ideal) (φ := .f32) (a1 (ix2 k.1 k.2)) : EReal) < Ideal.ofBits .f32 0x7F800000#32))) Finset.univ) := by
    pointwise [Cert.Pre_finite_gates_KernelIdeal.fn]
  rw [key] at h0
  have h1 := (IntOp.andi_eq_one).mp h0
  exact ⟨fun r k => lt_top_finite _ (all_of_fold _ _ h1.1 (r, k) (Finset.mem_univ _)),
    fun k e => lt_top_finite _ (all_of_fold _ _ h1.2 (k, e) (Finset.mem_univ _))⟩

/-! ## The two programs joined -/

section
variable (m : (ℓ : Loc nD τ sig) → Buf (Elt Ideal) ℓ)
variable {X : S512x512.Idx → EReal} {R : S512x8.Idx → EReal} {A : (⟨3, ![8, 512, 1024]⟩ : Shape).Idx → EReal}
  {B : (⟨3, ![8, 1024, 512]⟩ : Shape).Idx → EReal} (H : Blocks m X R A B)
include H

/-- The precondition on every device makes the whole tokens and the whole router finite, so every gate. -/
theorem gates_finite (h : ∀ c : Dev nD, Cert.Pre_finite_gates_KernelIdeal.fn (F := Ideal) (m ((c.tc : Thread nD τ).loc main_arg0))
      (m ((c.tc : Thread nD τ).loc main_arg1)) (m ((c.tc : Thread nD τ).loc main_arg2)) (m ((c.tc : Thread nD τ).loc main_arg3)) = fun _ => 1#1)
    (t : Fin 512) (e : Fin 8) : gate X R t e ≠ ⊥ ∧ gate X R t e ≠ ⊤ := by
  refine gate_finite X R (fun i => ?_) (fun i => ?_) t e
  · obtain ⟨c, r, k, rfl⟩ : ∃ (c : Dev nD) (r : Fin 128) (k : Fin 512), i = ix2 (row c r) k := by
      refine ⟨⟨(i 0).val / 128, ?_⟩, ⟨(i 0).val % 128, Nat.mod_lt _ (by decide)⟩, i 1, ?_⟩
      · have : (i 0).val < 512 := (i 0).isLt
        show _ < 4; omega
      · funext a
        fin_cases a
        · apply Fin.ext
          show (i 0).val = 128 * ((i 0).val / 128) + (i 0).val % 128
          omega
        · rfl
    have hp := (pre_finite _ _ _ _ (h c)).1 r k
    rw [← xstg_apply m H c r k, xstg_eq]
    exact hp
  · obtain ⟨c, k, s, rfl⟩ : ∃ (c : Dev nD) (k : Fin 512) (s : Fin 2), i = ix2 k (ex c s) := by
      refine ⟨⟨(i 1).val / 2, ?_⟩, i 0, ⟨(i 1).val % 2, Nat.mod_lt _ (by decide)⟩, ?_⟩
      · have : (i 1).val < 8 := (i 1).isLt
        show _ < 4; omega
      · funext a
        fin_cases a
        · rfl
        · apply Fin.ext
          show (i 1).val = 2 * ((i 1).val / 2) + (i 1).val % 2
          omega
    have hp := (pre_finite _ _ _ _ (h c)).2 k s
    rw [← rstg_apply m H c k s, rstg_eq]
    exact hp

/-- A device's result is its block of the layer's. -/
theorem outAt_block (hf : ∀ t e, gate X R t e ≠ ⊥ ∧ gate X R t e ≠ ⊤) (c : Dev nD) :
    outAt m c = Layout.block ⟨2, ![128, 512]⟩ ⟨2, ![512, 512]⟩ 0 4 c (fun x : S512x512.Idx => moe X R A B (x 0) (x 1)) := by
  funext x
  obtain ⟨r, d, rfl⟩ : ∃ (r : Fin 128) (d : Fin 512), x = ix2 r d := ⟨x 0, x 1, by funext b; fin_cases b <;> rfl⟩
  refine (outAt_apply m H c r d _ _ (chosen_top2 _) (fun e => (hf _ e).1)).trans ?_
  exact (congrArg (fun x : S512x512.Idx => moe X R A B (x 0) (x 1)) (block_idx0 _ c r d)).symm

end

end Cert.KernelIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_gates_KernelIdeal
public import proofs.«01_k».proof.Proof.Gen.Pre_finite_gates_ReferenceIdeal
public import proofs.«01_k».proof.Proof.Launch
public import proofs.«01_k».proof.Proof.LaunchBits
public import proofs.«01_k».proof.Proof.ValueKernel
public import proofs.«01_k».proof.Proof.ValueReference
public import proofs.«01_k».proof.Proof.Result
public import Idealize.ShloMosaic.Adequacy
public import Idealize.ShloMosaic.Init

@[expose] public section

noncomputable section

namespace Cert.Proof

open Idealize.ShloMosaic Idealize.SL.Sem Idealize.ShloMosaic.StableHlo

theorem quiescent_k : Cert.quiescent_Kernel := fun m g _ =>
  (θ_run Cert.Kernel.defs _ _).mono (fun _ h => ⟨fun c => ⟨(h.1 c (0 : Fin 5)).trans (Cert.Kernel.Moe.finalA_0 m g c),
    (h.1 c (1 : Fin 5)).trans (Cert.Kernel.Moe.finalA_1 m g c), (h.1 c (2 : Fin 5)).trans (Cert.Kernel.Moe.finalA_2 m g c),
    (h.1 c (3 : Fin 5)).trans (Cert.Kernel.Moe.finalA_3 m g c)⟩, h.2⟩) (Cert.Kernel.Moe.run_main m g)

theorem quiescent_ki : Cert.quiescent_KernelIdeal := fun m g _ =>
  (θ_run Cert.KernelIdeal.defs _ _).mono (fun _ h => ⟨fun c => (h.1 c).2, h.2⟩) (Cert.KernelIdeal.Moe.run_arrays m g)

theorem quiescent_ri : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem algebraic : Cert.algebraic_KernelIdeal_ReferenceIdeal_pre_finite_gates_KernelIdeal := by
  intro m g m' g' hpre hin
  have H : Cert.KernelIdeal.Moe.Blocks m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hin c).1, fun c => (hin c).2.1, fun c => (hin c).2.2.1, fun c => (hin c).2.2.2⟩
  have hf := Cert.KernelIdeal.Moe.gates_finite m H hpre
  have hb := Cert.KernelIdeal.Moe.outAt_block m H hf
  have HR : ∀ c : Dev Cert.ReferenceIdeal.nD, Cert.ReferenceIdeal.Value.Args (launchContents m' c) _ _ _ _ := fun c => by
    obtain rfl : c = 0 := Subsingleton.elim (α := Fin 1) _ _
    exact ⟨rfl, rfl, rfl, rfl⟩
  exact ⟨_, (θ_run Cert.KernelIdeal.defs _ _).mono (fun _ h c => ⟨(h.1 c).1.trans (hb c), (h.1 c).2⟩) (Cert.KernelIdeal.Moe.run_arrays m g),
    (θ_run Cert.ReferenceIdeal.defs _ _).mono (fun _ h => h 0) (Cert.ReferenceIdeal.Value.run_apply m' g' _ _ _ _ HR hf)⟩

theorem claim : Cert.Claim := ⟨Cert.Kernel.Gen.facts, Cert.KernelIdeal.Gen.facts, Cert.ReferenceIdeal.Gen.facts,
  Cert.Pre_finite_gates_KernelIdeal.Gen.facts, Cert.Pre_finite_gates_ReferenceIdeal.Gen.facts,
  quiescent_k, quiescent_ki, fun m g _ => quiescent_ki m g trivial, quiescent_ri, fun m g _ => quiescent_ri m g trivial,
  IdealRules.named_const.statement Cert.KernelIdeal.κ "mask" .f32 0xF149F2CA#32 ⊥ rfl, algebraic⟩

end Cert.Proof

end
